-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_given_KernelIdeal [hPre_pages_given_KernelIdeal : Cert.Pre_pages_given_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_given_ReferenceIdeal [hPre_pages_given_ReferenceIdeal : Cert.Pre_pages_given_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_given_KernelIdeal [hKernelIdeal : Cert.KernelIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_given_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_given_ReferenceIdeal [hReferenceIdeal : Cert.ReferenceIdeal.Facts] [hPre_pages_given_ReferenceIdeal : Cert.Pre_pages_given_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_given_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pages_given_KernelIdeal [hKernelIdeal : Cert.KernelIdeal.Facts] [hReferenceIdeal : Cert.ReferenceIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_given_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_given_KernelIdeal : Cert.Pre_pages_given_KernelIdeal.Facts) (hPre_pages_given_ReferenceIdeal : Cert.Pre_pages_given_ReferenceIdeal.Facts),
    quiescent_Kernel (hKernel := hKernel)
    ∧ quiescent_KernelIdeal (hKernelIdeal := hKernelIdeal)
    ∧ quiescent_KernelIdeal_pre_pages_given_KernelIdeal (hKernelIdeal := hKernelIdeal) (hPre_pages_given_KernelIdeal := hPre_pages_given_KernelIdeal)
    ∧ quiescent_ReferenceIdeal (hReferenceIdeal := hReferenceIdeal)
    ∧ quiescent_ReferenceIdeal_pre_pages_given_ReferenceIdeal (hReferenceIdeal := hReferenceIdeal) (hPre_pages_given_ReferenceIdeal := hPre_pages_given_ReferenceIdeal)
    ∧ preserves_Kernel_KernelIdeal
    ∧ algebraic_KernelIdeal_ReferenceIdeal_pre_pages_given_KernelIdeal (hKernelIdeal := hKernelIdeal) (hReferenceIdeal := hReferenceIdeal) (hPre_pages_given_KernelIdeal := hPre_pages_given_KernelIdeal)
-- ==== Pre_pages_given_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 0#32
  let main_v18 : IVec S16 32 := broadcastInDim S16 ![] bcast_S_S16 main_c_4
  let main_v19 : IVec S16 1 := cmpi .sgt main_arg4 main_v18
  let main_c_5 : IVec S_ 1 := constantI S_ 1 1#1
  let main_v20 : IVec S_ 1 := (fun x v => Host.reduce IntOp.andi x v reducesTo_S16_S_d0 h_S_) main_v19 main_c_5
  let main_v21 : IVec S16x128 1 := ori main_v3 main_v8
  let main_c_6 : IVec S_ 1 := constantI S_ 1 1#1
  let main_v22 : IVec S_ 1 := (fun x v => Host.reduce IntOp.andi x v reducesTo_S16x128_S_d0_1 h_S_) main_v21 main_c_6
  let main_v23 : IVec S_ 1 := andi main_v20 main_v22
  let main_v24 : IVec S_ 1 := andi main_v23 main_v17
  main_v24

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .sge main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 256#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S128x16x16x64 .f32 := Host.absf main_arg1
  let main_cst_2 : FVec F S_ .f32 := constant S_ .f32 0x7F800000#32
  let main_v14 : FVec F S128x16x16x64 .f32 := broadcastInDim S128x16x16x64 ![] bcast_S_S128x16x16x64 main_cst_2
  let main_v15 : IVec S128x16x16x64 1 := cmpf .olt main_v13 main_v14
  let main_c_3 : IVec S_ 1 := constantI S_ 1 1#1
  let main_v16 : IVec S_ 1 := (fun x v => Host.reduce IntOp.andi x v reducesTo_S128x16x16x64_S_d0_1_2_3 h_S_) main_v15 main_c_3
  let main_v17 : IVec S_ 1 := andi main_v12 main_v16
  fn_part1 (F := F) main_arg4 main_v3 main_v8 main_v17
-- ==== Pre_pages_given_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S256x16x16x64 : S_.BroadcastsInDim S256x16x16x64 (![] : Fin 0 → Fin S256x16x16x64.rank)
  reducesTo_S256x16x16x64_S_d0_1_2_3 : S256x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 0#32
  let main_v18 : IVec S16 32 := broadcastInDim S16 ![] bcast_S_S16 main_c_4
  let main_v19 : IVec S16 1 := cmpi .sgt main_arg4 main_v18
  let main_c_5 : IVec S_ 1 := constantI S_ 1 1#1
  let main_v20 : IVec S_ 1 := (fun x v => Host.reduce IntOp.andi x v reducesTo_S16_S_d0 h_S_) main_v19 main_c_5
  let main_v21 : IVec S16x128 1 := ori main_v3 main_v8
  let main_c_6 : IVec S_ 1 := constantI S_ 1 1#1
  let main_v22 : IVec S_ 1 := (fun x v => Host.reduce IntOp.andi x v reducesTo_S16x128_S_d0_1 h_S_) main_v21 main_c_6
  let main_v23 : IVec S_ 1 := andi main_v20 main_v22
  let main_v24 : IVec S_ 1 := andi main_v23 main_v17
  main_v24

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16 32) : IVec S_ 1 :=
  let main_v0 : IVec S16x128 32 := iotaInDim S16x128 32 1
  let main_v1 : IVec S16x1 32 := broadcastInDim S16x1 ![0] bcast_S16_S16x1_0 main_arg4
  let main_v2 : IVec S16x128 32 := broadcastInDim S16x128 ![0, 1] bcast_S16x1_S16x128_0_1 main_v1
  let main_v3 : IVec S16x128 1 := cmpi .sge main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 256#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S256x16x16x64 .f32 := Host.absf main_arg1
  let main_cst_2 : FVec F S_ .f32 := constant S_ .f32 0x7F800000#32
  let main_v14 : FVec F S256x16x16x64 .f32 := broadcastInDim S256x16x16x64 ![] bcast_S_S256x16x16x64 main_cst_2
  let main_v15 : IVec S256x16x16x64 1 := cmpf .olt main_v13 main_v14
  let main_c_3 : IVec S_ 1 := constantI S_ 1 1#1
  let main_v16 : IVec S_ 1 := (fun x v => Host.reduce IntOp.andi x v reducesTo_S256x16x16x64_S_d0_1_2_3 h_S_) main_v15 main_c_3
  let main_v17 : IVec S_ 1 := andi main_v12 main_v16
  fn_part1 (F := F) main_arg4 main_v3 main_v8 main_v17
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64x128 : Shape := ⟨4, ![16, 16, 64, 128]⟩
abbrev S16x1 : Shape := ⟨2, ![16, 1]⟩
abbrev S16x16x128 : Shape := ⟨3, ![16, 16, 128]⟩
abbrev S_ : Shape := ⟨0, ![]⟩
abbrev S16x128x128 : Shape := ⟨3, ![16, 128, 128]⟩
abbrev S16x1x1 : Shape := ⟨3, ![16, 1, 1]⟩
abbrev S16x128x1 : Shape := ⟨3, ![16, 128, 1]⟩
abbrev S128x2048 : Shape := ⟨2, ![128, 2048]⟩
abbrev S16x2048 : Shape := ⟨2, ![16, 2048]⟩
abbrev S16x1x1x64 : Shape := ⟨4, ![16, 1, 1, 64]⟩
abbrev S16x64 : Shape := ⟨2, ![16, 64]⟩
abbrev S16x1x64x128 : Shape := ⟨4, ![16, 1, 64, 128]⟩
abbrev S16x64x128 : Shape := ⟨3, ![16, 64, 128]⟩
abbrev S1x64x128 : Shape := ⟨3, ![1, 64, 128]⟩
abbrev S64x128 : Shape := ⟨2, ![64, 128]⟩
abbrev S64x2048 : Shape := ⟨2, ![64, 2048]⟩
abbrev S16x128x64 : Shape := ⟨3, ![16, 128, 64]⟩
abbrev S2048x64 : Shape := ⟨2, ![2048, 64]⟩
abbrev S1x16x64 : Shape := ⟨3, ![1, 16, 64]⟩
abbrev S1x16x1 : Shape := ⟨3, ![1, 16, 1]⟩
abbrev S1x16x128 : Shape := ⟨3, ![1, 16, 128]⟩

abbrev nBuf : Space → Nat
  | .hbm => 9
  | .vmem => 8
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x16x64x128, .f32⟩
  | .hbm, ⟨6, _⟩ => ⟨S16x16x64x128, .f32⟩
  | .hbm, ⟨7, _⟩ => ⟨S16x1, .i32⟩
  | .hbm, ⟨8, _⟩ => ⟨S16x1x16x64, .f32⟩
  | .local _ .vmem, ⟨0, _⟩ => ⟨S16x1x16x64, .f32⟩
  | .local _ .vmem, ⟨1, _⟩ => ⟨S16x16x64x128, .f32⟩
  | .local _ .vmem, ⟨2, _⟩ => ⟨S16x16x64x128, .f32⟩
  | .local _ .vmem, ⟨3, _⟩ => ⟨S16x128, .i32⟩
  | .local _ .vmem, ⟨4, _⟩ => ⟨S16x1, .i32⟩
  | .local _ .vmem, ⟨5, _⟩ => ⟨S16x1x16x64, .f32⟩
  | .local _ .vmem, ⟨6, _⟩ => ⟨S16x16x128, .f32⟩
  | .local _ .vmem, ⟨7, _⟩ => ⟨S16x16x128, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_439 : BitVec 32 := 0#32
  let c1_i32_437 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1081 : BitVec 32 := Scalar.subi c1_i32_437 v2
  let c2_i32_438 : BitVec 32 := 2#32
  let v1082 : BitVec 32 := Scalar.muli v1081 c2_i32_438
  let v1083 : BitVec 32 := Scalar.addi c0_i32_439 v1082
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v1084 : BitVec 32 := Scalar.muli v5 c1_i32_440
  let v1085 : BitVec 32 := Scalar.addi v1083 v1084
  v1085.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S128 : Shape := ⟨1, ![128]⟩
abbrev S1x128 : Shape := ⟨2, ![1, 128]⟩
abbrev S16x1 : Shape := ⟨2, ![16, 1]⟩
abbrev S16x128x16 : Shape := ⟨3, ![16, 128, 16]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S128, .i32⟩
  | .hbm, ⟨30, _⟩ => ⟨S1x128, .i32⟩
  | .hbm, ⟨31, _⟩ => ⟨S16x1, .i32⟩
  | .hbm, ⟨32, _⟩ => ⟨S16x128, .i32⟩
  | .hbm, ⟨33, _⟩ => ⟨S16x128, .i32⟩
  | .hbm, ⟨34, _⟩ => ⟨S16x128, .i1⟩
  | .hbm, ⟨35, _⟩ => ⟨S16x128x16, .i1⟩
  | .hbm, ⟨36, _⟩ => ⟨S16x2048, .i1⟩
  | .hbm, ⟨37, _⟩ => ⟨S16x1x1x2048, .i1⟩
  | .hbm, ⟨38, _⟩ => ⟨S_, .f32⟩
  | .hbm, ⟨39, _⟩ => ⟨S_, .f32⟩
  | .hbm, ⟨40, _⟩ => ⟨S16x16x1x2048, .i1⟩
  | .hbm, ⟨41, _⟩ => ⟨S16x16x1x2048, .f32⟩
  | .hbm, ⟨42, _⟩ => ⟨S16x16x1x2048, .f32⟩
  | .hbm, ⟨43, _⟩ => ⟨S_, .f32⟩
  | .hbm, ⟨44, _⟩ => ⟨S16x16x1, .f32⟩
  | .hbm, ⟨45, _⟩ => ⟨S16x16x1x1, .f32⟩
  | .hbm, ⟨46, _⟩ => ⟨S16x16x1x2048, .f32⟩
  | .hbm, ⟨47, _⟩ => ⟨S16x16x1x2048, .f32⟩
  | .hbm, ⟨48, _⟩ => ⟨S16x16x1x2048, .f32⟩
  | .hbm, ⟨49, _⟩ => ⟨S_, .f32⟩
  | .hbm, ⟨50, _⟩ => ⟨S16x16x1, .f32⟩
  | .hbm, ⟨51, _⟩ => ⟨S16x16x1x1, .f32⟩
  | .hbm, ⟨52, _⟩ => ⟨S16x16x1x2048, .f32⟩
  | .hbm, ⟨53, _⟩ => ⟨S16x16x1x2048, .f32⟩
  | .hbm, ⟨54, _⟩ => ⟨S16x16x64x1, .f32⟩
  | .hbm, ⟨55, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Contents.lean ====
/-
  What the buffers of the kernel hold, as plain functions of a device's inputs: the keys' multiplicities, one head's
  scores, maximum, weighted values and sum, what a device sends, and what it writes out from what it sent and received.
-/
module

public import proofs.«01_k».proof.Proof.Gen.KernelIdeal
public import proofs.«01_k».proof.Proof.Gen.KernelIdeal.Skeleton
public import Idealize.ShloMosaic.Lib.ValueIdxCore

@[expose] public section

noncomputable section

namespace Cert.PagedAttn

open Idealize.ShloMosaic Idealize.SL.Sem Cert.KernelIdeal Cert.KernelIdeal.Gen
open Idealize.ShloMosaic.ValueIdx (ix2 ix3 ix4)

variable {F : FTy → Type} [FloatOps F]

/-! ## The device opposite along x -/

/-- The device that holds the other half of the pages: the other x, the same y. -/
def peer (c : Dev nD) : Dev nD := ⟨(c.val + 2) % 4, Nat.mod_lt _ (by decide)⟩
theorem peer_peer (c : Dev nD) : peer (peer c) = c := by revert c; decide
/-- The exchange as a permutation of the devices. -/
def peers : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide

/-! ## One device's inputs -/

/-- What a device's kernel reads: the queries, the two transposed page arrays, the page tables, the lengths. -/
structure Inputs (F : FTy → Type) where
  q : Vec F S16x1x16x64 .f32
  kt : Vec F S16x16x64x128 .f32
  vt : Vec F S16x16x64x128 .f32
  bt : Vec F S16x128 .i32
  ln : Vec F S16x1 .i32

theorem inb_q (h : Fin 16) : ∀ a, (![0, 0, h.val, 0] : Fin 4 → ℕ) a + S16x1x1x64.size a ≤ S16x1x16x64.size a := by revert h; decide
theorem inb_p (h : Fin 16) : ∀ a, (![0, h.val, 0, 0] : Fin 4 → ℕ) a + S16x1x64x128.size a ≤ S16x16x64x128.size a := by revert h; decide
theorem inb_row (h : Fin 16) : ∀ a, (![h.val, 0, 0] : Fin 3 → ℕ) a + S1x16x128.size a ≤ S16x16x128.size a := by revert h; decide

/-- The whole page table, and all lengths, as the kernel reads them. -/
def btAll (t : Vec F S16x128 .i32) : Vec F S16x128 .i32 :=
  (Memref.whole cc0_stg3_0 : Memref sig .tc .vmem S16x128 .i32).view.readAt (Elt F) (Rect.unit (s := S16x128) ![0, 0] S16x128.size inb_S16x128_S16x128_0_0).toLoadRect t
def lnAll (t : Vec F S16x1 .i32) : Vec F S16x1 .i32 :=
  (Memref.whole cc0_stg4_0 : Memref sig .tc .vmem S16x1 .i32).view.readAt (Elt F) (Rect.unit (s := S16x1) ![0, 0] S16x1.size inb_S16x1_S16x1_0_0).toLoadRect t
theorem zero2 : (![0, 0] : Fin 2 → ℕ) = fun _ => 0 := funext fun a => by fin_cases a <;> rfl
theorem btAll_eq (t : Vec F S16x128 .i32) : btAll t = t := Memref.readAt_unit_zero (Elt F) cc0_stg3_0 zero2 _ t
theorem lnAll_eq (t : Vec F S16x1 .i32) : lnAll t = t := Memref.readAt_unit_zero (Elt F) cc0_stg4_0 zero2 _ t

/-- Head h's queries. -/
def qAt (q : Vec F S16x1x16x64 .f32) (h : Fin 16) : Vec F S16x1x1x64 .f32 :=
  (Memref.whole cc0_stg0_0 : Memref sig .tc .vmem S16x1x16x64 .f32).view.readAt (Elt F) (Rect.unit (s := S16x1x16x64) ![0, 0, h.val, 0] S16x1x1x64.size (inb_q h)).toLoadRect q
/-- Head h's part of the keys' or of the values' pages. -/
def pAt (k : Vec F S16x16x64x128 .f32) (h : Fin 16) : Vec F S16x1x64x128 .f32 :=
  (Memref.whole cc0_stg1_0 : Memref sig .tc .vmem S16x16x64x128 .f32).view.readAt (Elt F) (Rect.unit (s := S16x16x64x128) ![0, h.val, 0, 0] S16x1x64x128.size (inb_p h)).toLoadRect k
/-- Head h's row of a buffer of the exchange. -/
def rowAt (f : Vec F S16x16x128 .f32) (h : Fin 16) : Vec F S1x16x128 .f32 :=
  (Memref.whole cc0_scratch0 : Memref sig .tc .vmem S16x16x128 .f32).view.readAt (Elt F) (Rect.unit (s := S16x16x128) ![h.val, 0, 0] S1x16x128.size (inb_row h)).toLoadRect f

theorem qAt_apply (q : Vec F S16x1x16x64 .f32) (h : Fin 16) (i : S16x1x1x64.Idx) : qAt q h i = q (ix4 (i 0) 0 h (i 3)) := by
  refine congrArg q (funext fun a => Fin.ext ?_)
  match a with
  | 0 => show 0 + 1 * (i 0).val = (i 0).val; omega
  | 1 => show 0 + 1 * (i 1).val = 0; have : (i 1).val < 1 := (i 1).isLt; omega
  | 2 => show h.val + 1 * (i 2).val = h.val; have : (i 2).val < 1 := (i 2).isLt; omega
  | 3 => show 0 + 1 * (i 3).val = (i 3).val; omega
theorem pAt_apply (k : Vec F S16x16x64x128 .f32) (h : Fin 16) (i : S16x1x64x128.Idx) : pAt k h i = k (ix4 (i 0) h (i 2) (i 3)) := by
  refine congrArg k (funext fun a => Fin.ext ?_)
  match a with
  | 0 => show 0 + 1 * (i 0).val = (i 0).val; omega
  | 1 => show h.val + 1 * (i 1).val = h.val; have : (i 1).val < 1 := (i 1).isLt; omega
  | 2 => show 0 + 1 * (i 2).val = (i 2).val; omega
  | 3 => show 0 + 1 * (i 3).val = (i 3).val; omega
theorem rowAt_apply (f : Vec F S16x16x128 .f32) (h : Fin 16) (i : S1x16x128.Idx) : rowAt f h i = f (ix3 h (i 1) (i 2)) := by
  refine congrArg f (funext fun a => Fin.ext ?_)
  match a with
  | 0 => show h.val + 1 * (i 0).val = h.val; have : (i 0).val < 1 := (i 0).isLt; omega
  | 1 => show 0 + 1 * (i 1).val = (i 1).val; omega
  | 2 => show 0 + 1 * (i 2).val = (i 2).val; omega

variable (c : Dev nD) (I : Inputs F)

/-- How often each page of the device is named by a sequence's used slots. -/
def pageCount : FVec F S16x128 .f32 := k0_pay2 c (btAll I.bt) (lnAll I.ln)
/-- The same, at every key. -/
def keyCount : FVec F S16x2048 .f32 := k0_pay3 (pageCount c I) (iota .tc S128x2048 32 [1] iota_S128x2048_d1_w32) 128#32
/-- The keys that a sequence uses. -/
def keyUsed : IVec S16x2048 1 := k0_pay4 (pageCount c I) (iota .tc S128x2048 32 [1] iota_S128x2048_d1_w32) 128#32

/-- Head h's scores, masked. -/
def score (h : Fin 16) : FVec F S16x2048 .f32 := k0_pay24 (keyUsed c I) (qAt I.q h) (pAt I.kt h)
/-- Head h's largest score, at every key. -/
def top (h : Fin 16) : FVec F S16x2048 .f32 := k0_pay26 (keyUsed c I) (qAt I.q h) (pAt I.kt h)

/-- What head h sends: the weighted values, the largest score, the sum of the weights. -/
def sendO (h : Fin 16) : Vec F S1x16x64 .f32 := k0_pay28 (keyCount c I) (score c I h) (top c I h) (pAt I.vt h)
def sendM (h : Fin 16) : Vec F S1x16x1 .f32 := k0_pay29 (k0_pay25 (keyUsed c I) (qAt I.q h) (pAt I.kt h))
def sendS (h : Fin 16) : Vec F S1x16x1 .f32 := k0_pay30 (keyCount c I) (score c I h) (top c I h)

/-- What a device sends: columns 0 to 63 the weighted values, column 64 the largest score, column 65 the sum. The
    columns behind are whatever the buffer held; this function repeats the sum there. -/
def sent : Vec F S16x16x128 .f32 := fun i =>
  if h : (i 2).val < 64 then sendO c I (i 0) (ix3 0 (i 1) ⟨(i 2).val, h⟩)
  else if (i 2).val = 64 then sendM c I (i 0) (ix3 0 (i 1) 0) else sendS c I (i 0) (ix3 0 (i 1) 0)

/-- Two such buffers agree on the columns the kernel writes. -/
def Agree (f g : Vec F S16x16x128 .f32) : Prop := ∀ i : S16x16x128.Idx, (i 2).val < 66 → f i = g i

/-- Head h's result, from what a device sent and what it received. -/
def mergeAt (f g : Vec F S16x16x128 .f32) (h : Fin 16) : Vec F S16x1x1x64 .f32 := k0_pay219 (k0_pay218 (rowAt f h)) (rowAt g h)
/-- All heads' results. -/
def merged (f g : Vec F S16x16x128 .f32) : Vec F S16x1x16x64 .f32 := fun i => mergeAt f g (i 2) (ix4 (i 0) 0 0 (i 3))

end Cert.PagedAttn

end
-- ==== Proof.Protocol.lean ====
/-
  How the two devices of a pair talk. Each device has three semaphores in the talk: the barrier's, the one its own
  copy counts on when the source is free again, and the one that counts what arrives. The barrier's unit carries the
  opposite device's receive buffer over, so that a copy never lands in a buffer that is still in use.
-/
module

public import proofs.«01_k».proof.Proof.Contents
public import proofs.«01_k».proof.Proof.Gen.KernelIdeal.Launch
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk

@[expose] public section

noncomputable section

namespace Cert.PagedAttn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Two copies of the round structure: the pipeline's own and the talk's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The three semaphores -/

/-- 0: the barrier; 1: the source is free again; 2: the other device's data is here. -/
abbrev talkSem : Fin 3 → SemLoc sig := fun | 0 => .reg barrier0 | 1 => .dma cc0_scratch2.sem | 2 => .dma cc0_scratch3.sem
theorem talkSem_inj : Function.Injective talkSem := by decide
theorem ne10 : talkSem 1 ≠ talkSem 0 := by decide
theorem ne20 : talkSem 2 ≠ talkSem 0 := by decide
theorem ne21 : talkSem 2 ≠ talkSem 1 := by decide
/-- Semaphore k of device c. -/
abbrev cell (k : Fin 3) (c : Dev nD) : GSem nD τ sig := ((c : Thread nD τ), talkSem k)

abbrev sendBuf : Memref sig .tc .vmem S16x16x128 .f32 := Memref.whole cc0_scratch0
abbrev recvBuf : Memref sig .tc .vmem S16x16x128 .f32 := Memref.whole cc0_scratch1

/-- The credit of one copy. -/
abbrev N : ℕ := sendBuf.view.dmaCredit
theorem N_pos : 0 < N := View.dmaCredit_pos _ (by decide)
theorem N_recv : recvBuf.view.dmaCredit = N := rfl

/-- Device c's send buffer, and its receive buffer, at contents f. -/
abbrev sendAt (c : Dev nD) (f : Buf (Elt F) (sendBuf.view.loc (c : Thread nD τ))) : sProp 𝕄 := sendBuf.view.loc (c : Thread nD τ) ↦{fullShare} f
abbrev recvAt (c : Dev nD) (f : Buf (Elt F) (recvBuf.view.loc (c : Thread nD τ))) : sProp 𝕄 := recvBuf.view.loc (c : Thread nD τ) ↦{fullShare} f

/-- What device c sends. -/
abbrev sentBy (ins : Dev nD → Inputs F) (c : Dev nD) : Vec F S16x16x128 .f32 := sent c (ins c)

/-! ## The schedule: one round, one payment on each of the three semaphores -/

variable (ins : Dev nD → Inputs F)

/-- What a payment on device c's semaphore k hands over: the opposite device's receive buffer, and that its semaphore 2
    is in use; the send buffer, as sent; the receive buffer, holding what the opposite device sent. -/
def pay (c : Dev nD) : Fin 3 → sProp 𝕄
  | 0 => iprop((∃ f, recvAt (peer c) f) ∗ reached ER (cell 2 (peer c)) 0)
  | 1 => iprop(∃ f, ⌜Agree f (sentBy ins c)⌝ ∗ sendAt c f)
  | 2 => iprop(∃ f, ⌜Agree f (sentBy ins (peer c))⌝ ∗ recvAt c f)

/-- The amount of a payment. -/
abbrev amt (k : Fin 3) : ℕ := if k = 0 then 1 else N

/-- The semaphores the talk uses. -/
abbrev IsTalk (g : GSem nD τ sig) : Prop := g.1.2 = .tc ∧ ∃ k, g.2 = talkSem k

def talk : Rounds.Schedule (GSem nD τ sig) Unit 𝕄 where
  duties g r := if r = 0 ∧ IsTalk g then {()} else ∅
  unitless _ := False
  amount g _ _ := if g.2 = talkSem 0 then 1 else N
  payload g _ _ := if g.2 = talkSem 0 then pay ins g.1.1 0 else if g.2 = talkSem 1 then pay ins g.1.1 1
    else if g.2 = talkSem 2 then pay ins g.1.1 2 else iprop(emp)
  amount_pos g _ _ _ := by
    split
    · exact Nat.one_pos
    · exact N_pos

instance pay_storable (c : Dev nD) (k : Fin 3) : BI.Storable (upEmb : UEmb _ 𝕄) (pay ins c k) := by
  match k with
  | 0 => unfold pay; infer_instance
  | 1 => unfold pay; infer_instance
  | 2 => unfold pay; infer_instance
instance talk_storable (g : GSem nD τ sig) (r : ℕ) (d : Unit) : BI.Storable (upEmb : UEmb _ 𝕄) ((talk ins).payload g r d) := by
  unfold talk
  dsimp only
  (repeat' split) <;> infer_instance

section Sched
variable (k : Fin 3) (c : Dev nD)

theorem talk_duties : (talk ins).duties (cell k c) 0 = {()} := if_pos ⟨rfl, rfl, k, rfl⟩
theorem talk_later (g : GSem nD τ sig) (r : ℕ) (hr : 1 ≤ r) : (talk ins).duties g r = ∅ := if_neg fun h => by omega
theorem talk_amount (u : Unit) : (talk ins).amount (cell k c) 0 u = amt k := by
  dsimp only [talk]
  match k with
  | 0 => rw [if_pos rfl]; rfl
  | 1 => rw [if_neg ne10]; rfl
  | 2 => rw [if_neg ne20]; rfl
theorem talk_payload (u : Unit) : (talk ins).payload (cell k c) 0 u = pay ins c k := by
  dsimp only [talk]
  match k with
  | 0 => rw [if_pos rfl]
  | 1 => rw [if_neg ne10, if_pos rfl]
  | 2 => rw [if_neg ne20, if_neg ne21, if_pos rfl]
theorem talk_expect : (talk ins).expect (cell k c) 0 = amt k := by
  unfold Schedule.expect Schedule.amountOf
  rw [talk_duties, Finset.sum_singleton, talk_amount]
/-- All of the round's payments at once are the one. -/
theorem talk_rest : bigSep ((talk ins).duties (cell k c) 0 \ ∅) (fun u => (talk ins).payload (cell k c) 0 u) = pay ins c k := by
  rw [Finset.sdiff_empty, talk_duties, bigSep_singleton, talk_payload]

end Sched

/-! ## What a device owes, and the levels -/

/-- A device owes the opposite one a copy and a barrier unit. -/
def O₀ (c : Dev nD) : CellTallies nD τ sig Unit := tallyAt (cell 2 (peer c)) () N + tallyAt (cell 0 (peer c)) () 1

def L (g : GSem nD τ sig) : Finset Unit := if g.1.2 = .tc then {()} else ∅
/-- The barrier is waited for before the data is. -/
def lv (g : GSem nD τ sig) (_ : Unit) : ℕ := if g.2 = talkSem 0 then 1 else if g.2 = talkSem 2 then 2 else 0

theorem L_of_ne (g : GSem nD τ sig) (h : g.1.2 ≠ .tc) : L g = ∅ := if_neg h
theorem L_tc (c : Dev nD) (s : SemLoc sig) : L ((c : Thread nD τ), s) = {()} := if_pos rfl

/-- A device that owes only its copy may wait at the barrier. -/
theorem mayWait_barrier (c : Dev nD) :
    (levAts L lv : sProp 𝕄) ⊢ MayWait (c : Thread nD τ) (talkSem 0) () (tallyAt (cell 2 (peer c)) () N) := by
  have only : ∀ (g : GSem nD τ sig) (u : Unit), 0 < tallyAt (cell 2 (peer c)) () N g u → g = cell 2 (peer c) := fun g u hg => by
    by_contra h
    rw [tallyAt_apply, if_neg fun e => h e.1] at hg
    exact Nat.lt_irrefl 0 hg
  refine MayOwe.of_cut (L := L) (lev := lv) 1 (fun p hp => ?_) (fun g u hg => ?_) (fun p hp => ?_) (fun g u hg => ?_)
  · rw [Finset.mem_singleton.mp hp, L_tc]; exact Finset.mem_singleton_self _
  · rw [only g u hg, L_tc]; exact Finset.mem_singleton_self _
  · rw [Finset.mem_singleton.mp hp]; exact le_of_eq (if_pos rfl)
  · rw [only g u hg]; unfold lv; rw [if_neg ne20, if_pos rfl]; decide

/-! ## What a device holds of the talk -/

/-- The five semaphores a device touches: its own three, the opposite one's barrier and its arrivals. -/
def invs (K : GSem nD τ sig → ℕ) (c : Dev nD) : sProp 𝕄 :=
  iprop(cellInv ER (talk ins) (K (cell 0 c)) (cell 0 c) ∗ cellInv ER (talk ins) (K (cell 1 c)) (cell 1 c)
    ∗ cellInv ER (talk ins) (K (cell 2 c)) (cell 2 c)
    ∗ cellInv ER (talk ins) (K (cell 0 (peer c))) (cell 0 (peer c)) ∗ cellInv ER (talk ins) (K (cell 2 (peer c))) (cell 2 (peer c)))

instance invs_persistent (K : GSem nD τ sig → ℕ) (c : Dev nD) : BI.Persistent (invs ins K c) := by unfold invs; infer_instance

/-- The three payments it is to make. -/
def toPay (c : Dev nD) : sProp 𝕄 :=
  iprop(dutyTok ER (cell 0 (peer c)) 0 () ∗ dutyTok ER (cell 2 (peer c)) 0 () ∗ dutyTok ER (cell 1 c) 0 ())

/-- From launch to the kernel: the barrier is in use already, the two copy semaphores are not yet. -/
def ghost (K : GSem nD τ sig → ℕ) (c : Dev nD) : sProp 𝕄 :=
  iprop(invs ins K c ∗ atPos ER (cell 0 c) 0 ∅ 0 ∗ openTok ER (cell 1 c) ∗ openTok ER (cell 2 c)
    ∗ reached ER (cell 0 (peer c)) 0 ∗ toPay c)

/-- With the two waits it is due, and the device's random-number register. -/
def start (c : Dev nD) : sProp 𝕄 :=
  iprop((∃ K, ghost ins K c) ∗ cred (tallyAt (cell 0 c) () 1) ∗ cred (tallyAt (cell 2 c) () N) ∗ ∃ r, prngReg c r)

/-- In the kernel: all three in use. -/
def opened (K : GSem nD τ sig → ℕ) (c : Dev nD) : sProp 𝕄 :=
  iprop(invs ins K c ∗ atPos ER (cell 0 c) 0 ∅ 0 ∗ atPos ER (cell 1 c) 0 ∅ 0 ∗ atPos ER (cell 2 c) 0 ∅ 0
    ∗ reached ER (cell 0 (peer c)) 0 ∗ reached ER (cell 1 c) 0 ∗ reached ER (cell 2 c) 0 ∗ toPay c)

/-- After its round a semaphore is put away at zero. -/
theorem close (κ : ℕ) (g : GSem nD τ sig) :
    iprop(cellInv ER (talk ins) κ g ∗ atPos ER g (0 + 1) ∅ 0) ⊢ (|={Set.univ}=> semVal g 0 : sProp 𝕄) :=
  Rounds.cell_close ER (talk ins) (Set.mem_univ κ) id (talk_later ins g)

abbrev 𝒱₀ : Variants := Variants.none

end Cert.PagedAttn

end
-- ==== Proof.Send.lean ====
/-
  One copy to the opposite device.
-/
module

public import proofs.«01_k».proof.Proof.Protocol

@[expose] public section

noncomputable section

namespace Cert.PagedAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (ins : Dev nD → Inputs F)

theorem send_set : sendBuf.view.set = Finset.univ := View.set_whole _
theorem recv_set : recvBuf.view.set = Finset.univ := View.set_whole _
/-- A copy replaces the whole receive buffer by the whole send buffer. -/
theorem copied (fd fs : Vec F S16x16x128 .f32) :
    recvBuf.view.write (Elt F) fd (sendBuf.view.read (Elt F) fs) Finset.univ = fs := by
  show (View.whole cc0_scratch1).write (Elt F) fd ((View.whole cc0_scratch0).read (Elt F) fs) Finset.univ = fs
  rw [View.read_whole]
  exact View.write_whole_univ _ _ _

/-- The copy to the opposite device, addressed to n = peer c: pays the source's return and the data's arrival. -/
theorem wp_send_pair (K : GSem nD τ sig → ℕ) (c n : Dev nD) (hn : n = peer c)
    {hsc : (recvBuf : Memref sig (Dev.tc n : Thread nD τ).2.kind .vmem S16x16x128 .f32).view.ref.isScScratch = false}
    {hsrc : sendBuf.view.WordExact} {hdst : recvBuf.view.WordExact}
    {hsem : DmaTarget.Typed .vmem (.dma cc0_scratch3.sem) (.remote (Dev.tc n : Thread nD τ) (recvBuf : Memref sig .tc .vmem S16x16x128 .f32) (.dma cc0_scratch2.sem) hsc)}
    {α : Type} {Q : α → sProp 𝕄} {k : PUnit → Prog (TpuEff nD τ sig (Elt F) Λ₀ .tc) α}
    (g : Vec F S16x16x128 .f32) (hg : Agree g (sentBy ins c)) (fn : Buf (Elt F) (recvBuf.view.loc (peer c : Thread nD τ))) (W : Waits sig Unit) :
    iprop(cellInv ER (talk ins) (K (cell 1 c)) (cell 1 c) ∗ cellInv ER (talk ins) (K (cell 2 (peer c))) (cell 2 (peer c))
        ∗ sendAt c g ∗ recvAt (peer c) fn ∗ owes (c : Thread nD τ) (tallyAt (cell 2 (peer c)) () N) W
        ∗ dutyTok ER (cell 1 c) 0 () ∗ reached ER (cell 1 c) 0
        ∗ dutyTok ER (cell 2 (peer c)) 0 () ∗ reached ER (cell 2 (peer c)) 0)
      ⊢ iprop(((cred (tallyAt (cell 1 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendBuf (.remote (Dev.tc n : Thread nD τ) recvBuf (.dma cc0_scratch2.sem) hsc) (.dma cc0_scratch3.sem) hsrc hdst hsem) k) Q) := by
  subst hn
  have e1 : (sendBuf.view.loc (c : Thread nD τ) ↦[sendBuf.view.set]{fullShare} g) ⊢ (talk ins).payload (cell 1 c) 0 () := by
    rw [talk_payload ins 1, send_set]; unfold pay
    iintro H
    iexists g
    isplitr
    · ipureintro; exact hg
    · iexact H
  have e2 : (recvBuf.view.loc (peer c : Thread nD τ) ↦[recvBuf.view.set]{fullShare} (recvBuf.view.write (Elt F) fn (sendBuf.view.read (Elt F) g) Finset.univ))
      ⊢ (talk ins).payload (cell 2 (peer c)) 0 () := by
    rw [talk_payload ins 2, recv_set, copied]; unfold pay; rw [peer_peer]
    iintro H
    iexists g
    isplitr
    · ipureintro; exact hg
    · iexact H
  have hN : recvBuf.view.amount (.dma cc0_scratch3.sem) = N := N_recv
  have hr : τ.routes (c : Thread nD τ) (peer c : Thread nD τ) = true := by routes
  have d1 : () ∈ (talk ins).duties (cell 1 c) 0 := by rw [talk_duties ins 1]; exact Finset.mem_singleton_self _
  have d2 : () ∈ (talk ins).duties (cell 2 (peer c)) 0 := by rw [talk_duties ins 2]; exact Finset.mem_singleton_self _
  have hO : tallyAt (cell 2 (peer c)) () N = 0 + tallyAt (cell 2 (peer c)) () N := (zero_add _).symm
  have a1 := talk_amount ins 1 c ()
  have a2 := talk_amount ins 2 (peer c) ()
  have h := Rounds.wp_send_pointsTo (defs := defs₀ (F := F)) 𝒱₀ ER (talk ins) (c : Thread nD τ) none (c' := (peer c : Thread nD τ)) (src := sendBuf) (dst := recvBuf)
    (sS := .dma cc0_scratch2.sem) (sem := .dma cc0_scratch3.sem) (hsc := hsc) (hsrc := hsrc) (hdst := hdst) (hsem := hsem) (q := fullShare) (fs := g) (fd := fn)
    (κ₁ := K (cell 1 c)) (κ₂ := K (cell 2 (peer c)))
    (r₁ := 0) (r₂ := 0) (d₁ := ()) (d₂ := ()) (k := k) (Q := Q) (W := W) (Es := Set.univ) (Γ := PendingWaitsCtx.empty)
    d1 d2 () () N hN a1 a2 0 hO e1 e2 hr
  rw [send_set, recv_set] at h
  exact h

end Cert.PagedAttn

end
-- ==== Proof.Pieces.lean ====
/-
  The stores of the kernel, head by head, and what they leave: three rectangles a head in the buffer that is sent,
  one a head in the result.
-/
module

public import proofs.«01_k».proof.Proof.Contents
public import Idealize.ShloMosaic.Lib.WritesUnit

@[expose] public section

noncomputable section

namespace Cert.PagedAttn

open Idealize.ShloMosaic Idealize.SL.Sem Cert.KernelIdeal Cert.KernelIdeal.Gen
open Idealize.ShloMosaic.ValueIdx (ix2 ix3 ix4)

variable {F : FTy → Type} [FloatOps F]

theorem inb_o (h : Fin 16) : ∀ a, (![h.val, 0, 0] : Fin 3 → ℕ) a + S1x16x64.size a ≤ S16x16x128.size a := by revert h; decide
theorem inb_m (h : Fin 16) : ∀ a, (![h.val, 0, 64] : Fin 3 → ℕ) a + S1x16x1.size a ≤ S16x16x128.size a := by revert h; decide
theorem inb_s (h : Fin 16) : ∀ a, (![h.val, 0, 65] : Fin 3 → ℕ) a + S1x16x1.size a ≤ S16x16x128.size a := by revert h; decide

/-- The three stores of a head, the last first. -/
abbrev headPieces (c : Dev nD) (I : Inputs F) (h : Fin 16) (L : List (View.Piece (Elt F) S16x16x128 .f32)) : List (View.Piece (Elt F) S16x16x128 .f32) :=
  ⟨Rect.unit (s := S16x16x128) ![h.val, 0, 65] S1x16x1.size (inb_s h), sendS c I h⟩ ::
  ⟨Rect.unit (s := S16x16x128) ![h.val, 0, 64] S1x16x1.size (inb_m h), sendM c I h⟩ ::
  ⟨Rect.unit (s := S16x16x128) ![h.val, 0, 0] S1x16x64.size (inb_o h), sendO c I h⟩ :: L

/-- The stores of the first n heads. -/
def sendPieces (c : Dev nD) (I : Inputs F) : (n : ℕ) → n ≤ 16 → List (View.Piece (Elt F) S16x16x128 .f32)
  | 0, _ => []
  | n + 1, hn => headPieces c I ⟨n, hn⟩ (sendPieces c I n (Nat.le_of_succ_le hn))

/-- They leave what is sent, in the rows of these heads. -/
theorem writes_sendPieces (c : Dev nD) (I : Inputs F) (f : Vec F S16x16x128 .f32) (n : ℕ) (hn : n ≤ 16) (i : S16x16x128.Idx)
    (hi : (i 0).val < n) (hl : (i 2).val < 66) :
    (Memref.whole cc0_scratch0 : Memref sig .tc .vmem S16x16x128 .f32).view.writes (Elt F) f (sendPieces c I n hn) i = sent c I i := by
  have hread : ∀ g : Vec F S16x16x128 .f32, (Memref.whole cc0_scratch0 : Memref sig .tc .vmem S16x16x128 .f32).view.read (Elt F) g i = g i := fun g =>
    congrFun (View.read_whole cc0_scratch0 g) i
  refine (hread _).symm.trans ?_
  induction n with
  | zero => exact absurd hi (Nat.not_lt_zero _)
  | succ n ih =>
    unfold sendPieces
    by_cases h0 : (i 0).val = n
    · have hh : (⟨n, hn⟩ : Fin 16) = i 0 := Fin.ext h0.symm
      by_cases h64 : (i 2).val < 64
      · rw [View.read_writes_cons_unit_of_not_mem _ _ _ _ _ _ rfl 2 (.inl (by show (i 2).val < 65; omega)),
          View.read_writes_cons_unit_of_not_mem _ _ _ _ _ _ rfl 2 (.inl h64),
          View.read_writes_cons_unit_of_mem _ _ _ _ _ _ (ix3 0 (i 1) ⟨(i 2).val, h64⟩ : S1x16x64.Idx) rfl (fun a => by
            match a with
            | 0 => show (i 0).val = n + 0; omega
            | 1 => show (i 1).val = 0 + (i 1).val; omega
            | 2 => show (i 2).val = 0 + (i 2).val; omega)]
        unfold sent
        rw [dif_pos h64, hh]
      · by_cases h65 : (i 2).val = 64
        · rw [View.read_writes_cons_unit_of_not_mem _ _ _ _ _ _ rfl 2 (.inl (by show (i 2).val < 65; omega)),
            View.read_writes_cons_unit_of_mem _ _ _ _ _ _ (ix3 0 (i 1) 0 : S1x16x1.Idx) rfl (fun a => by
              match a with
              | 0 => show (i 0).val = n + 0; omega
              | 1 => show (i 1).val = 0 + (i 1).val; omega
              | 2 => show (i 2).val = 64 + 0; omega)]
          unfold sent
          rw [dif_neg h64, if_pos h65, hh]
        · rw [View.read_writes_cons_unit_of_mem _ _ _ _ _ _ (ix3 0 (i 1) 0 : S1x16x1.Idx) rfl (fun a => by
              match a with
              | 0 => show (i 0).val = n + 0; omega
              | 1 => show (i 1).val = 0 + (i 1).val; omega
              | 2 => show (i 2).val = 65 + 0; omega)]
          unfold sent
          rw [dif_neg h64, if_neg h65, hh]
    · have miss : (i 0).val < n := by omega
      rw [View.read_writes_cons_unit_of_not_mem _ _ _ _ _ _ rfl 0 (.inl miss),
        View.read_writes_cons_unit_of_not_mem _ _ _ _ _ _ rfl 0 (.inl miss),
        View.read_writes_cons_unit_of_not_mem _ _ _ _ _ _ rfl 0 (.inl miss)]
      exact ih _ miss

/-- All sixteen heads' stores leave what is sent. -/
theorem agree_sendPieces (c : Dev nD) (I : Inputs F) (f : Vec F S16x16x128 .f32) :
    Agree ((Memref.whole cc0_scratch0 : Memref sig .tc .vmem S16x16x128 .f32).view.writes (Elt F) f (sendPieces c I 16 le_rfl)) (sent c I) :=
  fun i hl => writes_sendPieces c I f 16 le_rfl i (i 0).isLt hl

/-! ## The result -/

/-- The stores of the first n heads' results. -/
def outPieces (f g : Vec F S16x16x128 .f32) : (n : ℕ) → n ≤ 16 → List (View.Piece (Elt F) S16x1x16x64 .f32)
  | 0, _ => []
  | n + 1, hn => ⟨Rect.unit (s := S16x1x16x64) ![0, 0, n, 0] S16x1x1x64.size (inb_q ⟨n, hn⟩), mergeAt f g ⟨n, hn⟩⟩ ::
      outPieces f g n (Nat.le_of_succ_le hn)

/-- They leave these heads' results. -/
theorem writes_outPieces (f g : Vec F S16x16x128 .f32) (r : Vec F S16x1x16x64 .f32) (n : ℕ) (hn : n ≤ 16) (i : S16x1x16x64.Idx)
    (hi : (i 2).val < n) :
    (Memref.whole cc0_stg5_0 : Memref sig .tc .vmem S16x1x16x64 .f32).view.writes (Elt F) r (outPieces f g n hn) i = merged f g i := by
  have hread : ∀ g : Vec F S16x1x16x64 .f32, (Memref.whole cc0_stg5_0 : Memref sig .tc .vmem S16x1x16x64 .f32).view.read (Elt F) g i = g i := fun g =>
    congrFun (View.read_whole cc0_stg5_0 g) i
  refine (hread _).symm.trans ?_
  induction n with
  | zero => exact absurd hi (Nat.not_lt_zero _)
  | succ n ih =>
    unfold outPieces
    by_cases h0 : (i 2).val = n
    · have hh : (⟨n, hn⟩ : Fin 16) = i 2 := Fin.ext h0.symm
      rw [View.read_writes_cons_unit_of_mem _ _ _ _ _ _ (ix4 (i 0) 0 0 (i 3) : S16x1x1x64.Idx) rfl (fun a => by
            match a with
            | 0 => show (i 0).val = 0 + (i 0).val; omega
            | 1 => show (i 1).val = 0 + 0; have : (i 1).val < 1 := (i 1).isLt; omega
            | 2 => show (i 2).val = n + 0; omega
            | 3 => show (i 3).val = 0 + (i 3).val; omega)]
      unfold merged
      rw [hh]
    · have miss : (i 2).val < n := by omega
      rw [View.read_writes_cons_unit_of_not_mem _ _ _ _ _ _ rfl 2 (.inl miss)]
      exact ih _ miss

theorem writes_outPieces_all (f g : Vec F S16x16x128 .f32) (r : Vec F S16x1x16x64 .f32) :
    (Memref.whole cc0_stg5_0 : Memref sig .tc .vmem S16x1x16x64 .f32).view.writes (Elt F) r (outPieces f g 16 le_rfl) = merged f g :=
  funext fun i => writes_outPieces f g r 16 le_rfl i (i 2).isLt

end Cert.PagedAttn

end
-- ==== Proof.Merge.lean ====
/-
  One element of a head's result, from the two devices' numbers for that head and sequence.
-/
module

public import proofs.«01_k».proof.Proof.Contents
public import Idealize.ShloMosaic.Lib.Pipeline.Value

@[expose] public section

noncomputable section

namespace Cert.PagedAttn

open Idealize.ShloMosaic Idealize.SL.Sem Cert.KernelIdeal Cert.KernelIdeal.Gen
open Idealize.ShloMosaic.ValueIdx (ix2 ix3 ix4 eq_ix2 eq_ix4)

variable {F : FTy → Type} [FloatOps F]

/-- Two weighted averages put together: each side's weighted value, largest score and sum of weights. -/
def merge1 (o₁ m₁ s₁ o₂ m₂ s₂ : F .f32) : F .f32 :=
  FloatOps.divf
    (FloatOps.addf (FloatOps.mulf (FloatOps.exp (FloatOps.subf m₁ (FloatOps.maximumf m₁ m₂))) o₁)
      (FloatOps.mulf (FloatOps.exp (FloatOps.subf m₂ (FloatOps.maximumf m₁ m₂))) o₂))
    (FloatOps.addf (FloatOps.mulf (FloatOps.exp (FloatOps.subf m₁ (FloatOps.maximumf m₁ m₂))) s₁)
      (FloatOps.mulf (FloatOps.exp (FloatOps.subf m₂ (FloatOps.maximumf m₁ m₂))) s₂))

/-- A 1×16×128 row as a 16×128 array. -/
theorem row2_apply (f : Vec F S16x16x128 .f32) (h : Fin 16) (b : Fin 16) (l : Fin 128) :
    shapeCast S16x128 (rowAt f h) shapeCasts_S1x16x128_S16x128 (ix2 b l) = f (ix3 h b l) := by
  refine (shapeCast_apply _ _ (ix2 b l) (ix3 0 b l : S1x16x128.Idx) ?_).trans (rowAt_apply f h _)
  rw [Shape.rowMajor_val_two, Shape.rowMajor_val_three]
  show (0 * 16 + b.val) * 128 + l.val = b.val * 128 + l.val
  omega

theorem cols_apply (x : FVec F S16x128 .f32) (b : Fin 16) (d : Fin 64) :
    extractStridedSlice S16x64 ![0, 0] x slices_S16x128_o0_0_S16x64 (ix2 b d) = x (ix2 b ⟨d.val, by omega⟩) :=
  extractStridedSlice_apply _ _ _ _ _ fun a => by
    match a with
    | 0 => show b.val = 0 + b.val; omega
    | 1 => show d.val = 0 + d.val; omega
theorem col64_apply (x : FVec F S16x128 .f32) (b : Fin 16) (z : Fin 1) :
    extractStridedSlice S16x1 ![0, 64] x slices_S16x128_o0_64_S16x1 (ix2 b z) = x (ix2 b 64) :=
  extractStridedSlice_apply _ _ _ _ _ fun a => by
    match a with
    | 0 => show b.val = 0 + b.val; omega
    | 1 => show 64 = 64 + z.val; omega
theorem col65_apply (x : FVec F S16x128 .f32) (b : Fin 16) (z : Fin 1) :
    extractStridedSlice S16x1 ![0, 65] x slices_S16x128_o0_65_S16x1 (ix2 b z) = x (ix2 b 65) :=
  extractStridedSlice_apply _ _ _ _ _ fun a => by
    match a with
    | 0 => show b.val = 0 + b.val; omega
    | 1 => show 65 = 65 + z.val; omega
/-- A column repeated along the second axis. -/
theorem spread64_apply (x : FVec F S16x1 .f32) (b : Fin 16) (d : Fin 64) :
    broadcastTo S16x64 x broadcasts_S16x1_S16x64 (ix2 b d) = x (ix2 b 0) :=
  broadcastTo_apply _ _ _ _ fun a => by
    match a with
    | 0 => rfl
    | 1 => rfl

/-- One element of a head's result. -/
theorem mergeAt_apply (f g : Vec F S16x16x128 .f32) (h : Fin 16) (b : Fin 16) (d : Fin 64) :
    mergeAt f g h (ix4 b 0 0 d) = merge1 (f (ix3 h b ⟨d.val, by omega⟩)) (f (ix3 h b 64)) (f (ix3 h b 65))
      (g (ix3 h b ⟨d.val, by omega⟩)) (g (ix3 h b 64)) (g (ix3 h b 65)) := by
  unfold mergeAt k0_pay219 k0_pay218
  refine (shapeCast_apply _ _ (ix4 b 0 0 d) (ix2 b d : S16x64.Idx) ?_).trans ?_
  · rw [Shape.rowMajor_val_two, Shape.rowMajor_val_four]
    show b.val * 64 + d.val = ((b.val * 1 + 0) * 1 + 0) * 64 + d.val
    omega
  · simp only [divf, addf, mulf, exp, subf, maximumf, spread64_apply, cols_apply, col64_apply, col65_apply]
    repeat rw [row2_apply]
    rfl

/-- A head's result reads only the columns that are sent. -/
theorem mergeAt_congr {f f' g g' : Vec F S16x16x128 .f32} (hf : Agree f f') (hg : Agree g g') (h b : Fin 16) (d : Fin 64) :
    mergeAt f g h (ix4 b 0 0 d) = mergeAt f' g' h (ix4 b 0 0 d) := by
  have lo : ((ix3 h b ⟨d.val, by omega⟩ : S16x16x128.Idx) 2).val < 66 := by show d.val < 66; omega
  have h64 : ((ix3 h b 64 : S16x16x128.Idx) 2).val < 66 := by show 64 < 66; omega
  have h65 : ((ix3 h b 65 : S16x16x128.Idx) 2).val < 66 := by show 65 < 66; omega
  rw [mergeAt_apply, mergeAt_apply, hf _ lo, hf _ h64, hf _ h65, hg _ lo, hg _ h64, hg _ h65]
theorem merged_congr {f f' g g' : Vec F S16x16x128 .f32} (hf : Agree f f') (hg : Agree g g') : merged f g = merged f' g' :=
  funext fun i => mergeAt_congr hf hg (i 2) (i 0) (i 3)

end Cert.PagedAttn

end
-- ==== Proof.Body.lean ====
/-
  The kernel's body, run once.
-/
module

public import proofs.«01_k».proof.Proof.Send
public import proofs.«01_k».proof.Proof.Pieces
public import proofs.«01_k».proof.Proof.Merge

@[expose] public section

noncomputable section

namespace Cert.PagedAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (ins : Dev nD → Inputs F)

/-- Buffer b of device c, whole, at contents f. -/
abbrev held (c : Dev nD) (b : Ref sig .tc) (f : b.ty.Contents (Elt F)) : sProp 𝕄 := (Memref.whole b).view.loc (c : Thread nD τ) ↦{fullShare} f

/-- The five staged inputs. -/
def staged (c : Dev nD) (I : Inputs F) : sProp 𝕄 :=
  iprop(held c cc0_stg0_0 I.q ∗ held c cc0_stg1_0 I.kt ∗ held c cc0_stg2_0 I.vt ∗ held c cc0_stg3_0 I.bt ∗ held c cc0_stg4_0 I.ln)

def bodyPre (K : GSem nD τ sig → ℕ) (c : Dev nD) (W : Waits sig Unit) : sProp 𝕄 :=
  iprop(opened ins K c ∗ cred (tallyAt (cell 0 c) () 1) ∗ cred (tallyAt (cell 2 c) () N) ∗ levAts L lv
    ∗ (∃ f, sendAt c f) ∗ (∃ f, recvAt c f) ∗ staged c (ins c) ∗ (∃ f, held c cc0_stg5_0 f)
    ∗ owes (c : Thread nD τ) (O₀ c) W)

/-- What device c writes out. -/
abbrev result (c : Dev nD) : Vec F S16x1x16x64 .f32 := merged (sentBy ins c) (sentBy ins (peer c))

def bodyPost (c : Dev nD) : sProp 𝕄 :=
  iprop(semVal (cell 0 c) 0 ∗ semVal (cell 1 c) 0 ∗ semVal (cell 2 c) 0 ∗ (∃ f, sendAt c f) ∗ (∃ f, recvAt c f)
    ∗ staged c (ins c) ∗ held c cc0_stg5_0 (result ins c)
    ∗ ∃ W, owes (c : Thread nD τ) (0 : CellTallies nD τ sig Unit) W)

/-- The body on what the pipeline calls it with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3

/-- The buffer after the kernel's stores holds what is sent. -/
theorem sent_named (c : Dev nD) (f : Buf (Elt F) (sendBuf.view.loc (c : Thread nD τ))) (L : List (View.Piece (Elt F) S16x16x128 .f32))
    (hL : L = sendPieces c (ins c) 16 le_rfl) :
    sendAt c (sendBuf.view.writes (Elt F) f L) ⊢ iprop(∃ g, ⌜Agree g (sentBy ins c)⌝ ∗ sendAt c g : sProp 𝕄) := by
  subst hL
  iintro H
  iexists _
  isplitr
  · ipureintro; exact agree_sendPieces c (ins c) f
  · iexact H

/-- The result buffer after the kernel's stores holds the result, if what was read agrees with what was sent. -/
theorem out_named (c : Dev nD) (f : (cc0_stg5_0 : Ref sig .tc).ty.Contents (Elt F)) (g6 g7 : Vec F S16x16x128 .f32)
    (h6 : Agree g6 (sentBy ins c)) (h7 : Agree g7 (sentBy ins (peer c))) (L : List (View.Piece (Elt F) S16x1x16x64 .f32))
    (hL : L = outPieces g6 g7 16 le_rfl) :
    held c cc0_stg5_0 ((Memref.whole cc0_stg5_0 : Memref sig .tc .vmem S16x1x16x64 .f32).view.writes (Elt F) f L)
      ⊢ (held c cc0_stg5_0 (result ins c) : sProp 𝕄) := by
  subst hL
  rw [writes_outPieces_all, merged_congr h6 h7]

set_option maxHeartbeats 1000000 in
theorem body_run (K : GSem nD τ sig → ℕ) (c : Dev nD) (W : Waits sig Unit) (Kt : PUnit → sProp 𝕄) :
    iprop(bodyPre ins K c W ∗ (bodyPost ins c -∗ Kt ⟨⟩))
      ⊢ wp frame (wpE (defs₀ (F := F)) 𝒱₀ c none) Set.univ (theBody (F := F)) Kt := by
  unfold theBody
  rw [cc0_body_eq_skeleton]
  unfold cc0_body_skel
  rw [k0_part1_eq_skeleton]
  unfold k0_part1_skel
  simp only [semSignalWord, semWaitWord, Prog.lift, Prog.bind_op, Prog.bind_ret, Prog.pure_eq_ret, wp_deviceId, dev1_eq]
  unfold bodyPre opened invs toPay staged
  iintro ⟨⟨⟨⟨#HI0, #HI1, #HI2, #HI0P, #HI2P⟩, Hat0, Hat1, Hat2, #Hr0P, #Hr1, #Hr2, Ht0P, Ht2P, Ht1⟩, Hc0, Hc2, #Hlev, ⟨%f6, Hsend⟩, ⟨%f7, Hrecv⟩,
    ⟨Hq, Hkt, Hvt, Hbt, Hln⟩, ⟨%f5, Hout⟩, HO⟩, Hk⟩
  -- hand the own receive buffer to the opposite device
  iapply (Rounds.wp_signal 𝒱₀ ER (talk ins) (c : Thread nD τ) none (dst := (peer c : Thread nD τ)) (sem := barrier0) (r := 0) (d := ()) (κ := K (cell 0 (peer c)))
      (by rw [talk_duties ins 0]; exact Finset.mem_singleton_self _) (talk_amount ins 0 (peer c) ()) () (tallyAt (cell 2 (peer c)) () N) rfl)
    $$ [HO Ht0P Hrecv]
  · isplitr; · iexact HI0P
    isplitl [HO]; · iexact HO
    isplitl [Ht0P]; · iexact Ht0P
    isplitl [Hrecv]
    · rw [talk_payload ins 0]; unfold pay; rw [peer_peer]
      isplitl [Hrecv]; · iexists f7; iexact Hrecv
      iexact Hr2
    · iexact Hr0P
  iintro HO
  -- wait for the opposite device's
  iapply (Rounds.wp_wait_rest_token 𝒱₀ ER (talk ins) (c : Thread nD τ) none (κ := K (cell 0 c))
      (wpE_semWait_eq 𝒱₀ (c : Thread nD τ) none Set.univ) (Set.mem_univ _) () (O := tallyAt (cell 2 (peer c)) () N) (W := W) (R := 0) (m := 0) (T := ∅)
      ((Nat.zero_add 1).trans (talk_expect ins 0 c).symm)) $$ [Hc0 HO Hat0]
  · isplitr; · iexact HI0
    isplitl [Hc0]; · iexact Hc0
    isplitl [HO]; · iexact HO
    isplitr; · iapply (mayWait_barrier c); iexact Hlev
    iexact Hat0
  iintro ⟨HO, Hat0, -, Hpay⟩
  ihave Hp := (Entails.of_eq (talk_rest ins 0 c)) $$ Hpay
  unfold pay
  icases Hp with ⟨⟨%fn, HrecvP⟩, #Hr2P⟩
  sl_exec_parts
  ihave Hs := (sent_named ins c f6 _ (by rfl)) $$ Hsend
  icases Hs with ⟨%g6, %hg6, Hsend⟩
  iapply (wp_send_pair ins K c _ (dev2_eq c) g6 hg6 fn (insert (SemLoc.reg barrier0, ()) W)) $$ [Hsend HrecvP HO Ht1 Ht2P]
  · isplitr; · iexact HI1
    isplitr; · iexact HI2P
    isplitl [Hsend]; · iexact Hsend
    isplitl [HrecvP]; · iexact HrecvP
    isplitl [HO]; · iexact HO
    isplitl [Ht1]; · iexact Ht1
    isplitr; · iexact Hr1
    isplitl [Ht2P]; · iexact Ht2P
    iexact Hr2P
  iintro ⟨Hc1, HO⟩
  simp only [Prog.lift, Prog.bind_op, Prog.bind_ret, Prog.pure_eq_ret]
  -- the source is free again
  iapply (Rounds.wp_wait_rest_token 𝒱₀ ER (talk ins) (c : Thread nD τ) none (κ := K (cell 1 c))
      (wpE_waitDma2_eq 𝒱₀ (c : Thread nD τ) none Set.univ) (Set.mem_univ _) () (O := 0) (W := insert (SemLoc.reg barrier0, ()) W) (R := 0) (m := 0) (T := ∅)
      ((Nat.zero_add _).trans (talk_expect ins 1 c).symm)) $$ [Hc1 HO Hat1]
  · isplitr; · iexact HI1
    isplitl [Hc1]; · iexact Hc1
    isplitl [HO]; · iexact HO
    isplitr; · rw [MayWait_zero]; iempintro
    iexact Hat1
  iintro ⟨HO, Hat1, -, Hpay⟩
  ihave Hp := (Entails.of_eq (talk_rest ins 1 c)) $$ Hpay
  unfold pay
  icases Hp with ⟨%s6, %hs6, Hsend⟩
  -- the opposite device's data is here
  iapply (Rounds.wp_wait_rest_token 𝒱₀ ER (talk ins) (c : Thread nD τ) none (κ := K (cell 2 c))
      (wpE_waitDma2_eq 𝒱₀ (c : Thread nD τ) none Set.univ (src := sendBuf) (dst := recvBuf)) (Set.mem_univ _) () (O := 0) (W := insert (talkSem 1, ()) (insert (SemLoc.reg barrier0, ()) W)) (R := 0) (m := 0) (T := ∅)
      ((Nat.zero_add _).trans (N_recv.trans (talk_expect ins 2 c).symm))) $$ [Hc2 HO Hat2]
  · isplitr; · iexact HI2
    isplitl [Hc2]; · iexact Hc2
    isplitl [HO]; · iexact HO
    isplitr; · rw [MayWait_zero]; iempintro
    iexact Hat2
  iintro ⟨HO, Hat2, -, Hpay⟩
  ihave Hp := (Entails.of_eq (talk_rest ins 2 c)) $$ Hpay
  unfold pay
  icases Hp with ⟨%s7, %hs7, Hrecv⟩
  sl_exec_parts
  ihave Hout := (out_named ins c f5 s6 s7 hs6 hs7 _ (by rfl)) $$ Hout
  -- the three semaphores are put away
  imod (close ins (K (cell 0 c)) (cell 0 c)) $$ [Hat0] with Hz0
  · isplitr; · iexact HI0
    iexact Hat0
  imod (close ins (K (cell 1 c)) (cell 1 c)) $$ [Hat1] with Hz1
  · isplitr; · iexact HI1
    iexact Hat1
  imod (close ins (K (cell 2 c)) (cell 2 c)) $$ [Hat2] with Hz2
  · isplitr; · iexact HI2
    iexact Hat2
  rw [wp_ret]; imodintro
  iapply Hk
  unfold bodyPost staged
  isplitl [Hz0]; · iexact Hz0
  isplitl [Hz1]; · iexact Hz1
  isplitl [Hz2]; · iexact Hz2
  isplitl [Hsend]; · iexists s6; iexact Hsend
  isplitl [Hrecv]; · iexists s7; iexact Hrecv
  isplitl [Hq Hkt Hvt Hbt Hln]
  · isplitl [Hq]; · iexact Hq
    isplitl [Hkt]; · iexact Hkt
    isplitl [Hvt]; · iexact Hvt
    isplitl [Hbt] <;> iassumption
  isplitl [Hout]; · iexact Hout
  iexists _
  iexact HO

end Cert.PagedAttn

end
-- ==== Proof.Region.lean ====
/-
  The kernel's region of the host program: what the pipeline stages, and that the body meets it.
-/
module

public import proofs.«01_k».proof.Proof.Body

@[expose] public section

noncomputable section

namespace Cert.PagedAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

/-- Device c's inputs: what is staged of each operand. -/
def inputs (c : Dev nD) : Inputs F :=
  ⟨iblk m c 0 t0_0, iblk m c 1 t0_0, iblk m c 2 t0_0, iblk m c 3 t0_0, iblk m c 4 t0_0⟩

/-- What the body starts from beside its windows, and what it leaves. -/
def before₀ (c : Dev nD) : sProp 𝕄 :=
  iprop((∃ K, opened (inputs m) K c) ∗ cred (tallyAt (cell 0 c) () 1) ∗ cred (tallyAt (cell 2 c) () N) ∗ levAts L lv
    ∗ (∃ f, sendAt c f) ∗ (∃ f, recvAt c f) ∗ ∃ r, prngReg c r)
def after₀ (c : Dev nD) : sProp 𝕄 :=
  iprop(semVal (cell 0 c) 0 ∗ (semVal (cell 1 c) 0 ∗ semVal (cell 2 c) 0) ∗ (∃ f, sendAt c f) ∗ (∃ f, recvAt c f) ∗ ∃ r, prngReg c r)

def dat₀ (c : Dev nD) : Dat τ (Elt F) Unit ℕ UU ℕ cfg0 c where
  A w := V m c (Pipeline.arrRef spec0 w)
  after w _ := match w with
    | ⟨0, _⟩ => (inputs m c).q
    | ⟨1, _⟩ => (inputs m c).kt
    | ⟨2, _⟩ => (inputs m c).vt
    | ⟨3, _⟩ => (inputs m c).bt
    | ⟨4, _⟩ => (inputs m c).ln
    | ⟨5, _⟩ => result (inputs m) c
  Φ t := if t.val = 0 then before₀ m c else after₀ c
  q _ := fullShare
  owed t := if t.val = 0 then O₀ c else 0

theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((Memref.whole b).view.loc (c : Thread nD τ)), ⌜f = X⌝ ∗ held c b f) := by
  unfold owns; simp only [Memref.view_whole, View.read_whole, View.set_whole]

/-- A core's debt, as the pipeline states it before a point. -/
theorem debt_intro {c : Dev nD} (dat : Dat τ (Elt F) Unit ℕ UU ℕ cfg0 c) (t : Fin (cfg0.N + 1)) (hr : dat.recorded t = Set.univ)
    (W : Waits sig Unit) : (owes (c : Thread nD τ) (dat.owed t) W : sProp 𝕄) ⊢ dat.owesAt () t := by
  unfold Dat.owesAt Pipeline.owesWithin Dat.bound
  rw [hr]
  iintro H
  iexists W
  isplitr; · ipureintro; exact fun _ _ => Or.inl trivial
  iexact H

theorem debt_elim {c : Dev nD} (dat : Dat τ (Elt F) Unit ℕ UU ℕ cfg0 c) (t : Fin (cfg0.N + 1)) :
    (dat.owesAt () t : sProp 𝕄) ⊢ iprop(∃ W, owes (c : Thread nD τ) (dat.owed t) W) := by
  unfold Dat.owesAt Pipeline.owesWithin
  iintro ⟨%W, -, H⟩
  iexists W; iexact H

/-- A window whose block is staged at the one point holds it when the body starts. -/
theorem staged_at (c : Dev nD) (w : Fin cfg0.W) (h : (cfg0.win w).fetch t0_0 = true) (d) :
    (dat₀ m c).before w t0_0 d = (dat₀ m c).fetched w t0_0 d := by
  unfold Dat.before; rw [if_pos h]

def winsPre (c : Dev nD) : sProp 𝕄 :=
  iprop((dat₀ m c).Φ (t0_0 : Fin cfg0.N).castSucc ∗ (dat₀ m c).owesAt () (t0_0 : Fin cfg0.N).castSucc
    ∗ (∃ d, owns (c : Thread nD τ) (Memref.whole cc0_stg0_0) fullShare ((dat₀ m c).before (0 : Fin 6) t0_0 d))
    ∗ (∃ d, owns (c : Thread nD τ) (Memref.whole cc0_stg1_0) fullShare ((dat₀ m c).before (1 : Fin 6) t0_0 d))
    ∗ (∃ d, owns (c : Thread nD τ) (Memref.whole cc0_stg2_0) fullShare ((dat₀ m c).before (2 : Fin 6) t0_0 d))
    ∗ (∃ d, owns (c : Thread nD τ) (Memref.whole cc0_stg3_0) fullShare ((dat₀ m c).before (3 : Fin 6) t0_0 d))
    ∗ (∃ d, owns (c : Thread nD τ) (Memref.whole cc0_stg4_0) fullShare ((dat₀ m c).before (4 : Fin 6) t0_0 d))
    ∗ (∃ d, owns (c : Thread nD τ) (Memref.whole cc0_stg5_0) fullShare ((dat₀ m c).before (5 : Fin 6) t0_0 d)))

def winsPost (c : Dev nD) : sProp 𝕄 :=
  iprop((dat₀ m c).Φ (t0_0 : Fin cfg0.N).succ ∗ (dat₀ m c).owesAt () (t0_0 : Fin cfg0.N).succ
    ∗ owns (c : Thread nD τ) (Memref.whole cc0_stg0_0) fullShare (inputs m c).q
    ∗ owns (c : Thread nD τ) (Memref.whole cc0_stg1_0) fullShare (inputs m c).kt
    ∗ owns (c : Thread nD τ) (Memref.whole cc0_stg2_0) fullShare (inputs m c).vt
    ∗ owns (c : Thread nD τ) (Memref.whole cc0_stg3_0) fullShare (inputs m c).bt
    ∗ owns (c : Thread nD τ) (Memref.whole cc0_stg4_0) fullShare (inputs m c).ln
    ∗ owns (c : Thread nD τ) (Memref.whole cc0_stg5_0) fullShare (result (inputs m) c))

/-- The body meets what the pipeline asks of it. -/
theorem body_meets (c : Dev nD) : BodyObligation (dat₀ (F := F) m c) defs₀ 𝒱₀ () Set.univ := fun t => by
  obtain rfl := fin_N0 t
  rw [bigSep_W0, bigSep_W0]
  show winsPre m c ⊢ wp frame (wpE (defs₀ (F := F)) 𝒱₀ c none) Set.univ (theBody (F := F)) (fun _ => winsPost m c)
  unfold winsPre winsPost
  simp only [owns_held]
  rw [show (dat₀ m c).Φ (t0_0 : Fin cfg0.N).castSucc = before₀ m c from rfl,
    show (dat₀ m c).Φ (t0_0 : Fin cfg0.N).succ = after₀ c from rfl]
  unfold before₀ after₀
  iintro ⟨⟨⟨%K, Hg⟩, Hc0, Hc2, Hlev, Hs, Hr, Hreg⟩, HO, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, -, H5⟩⟩
  obtain rfl : g0 = (inputs m c).q := hg0.trans (staged_at m c 0 (fetch0_0 _) d0)
  obtain rfl : g1 = (inputs m c).kt := hg1.trans (staged_at m c 1 (fetch0_1 _) d1)
  obtain rfl : g2 = (inputs m c).vt := hg2.trans (staged_at m c 2 (fetch0_2 _) d2)
  obtain rfl : g3 = (inputs m c).bt := hg3.trans (staged_at m c 3 (fetch0_3 _) d3)
  obtain rfl : g4 = (inputs m c).ln := hg4.trans (staged_at m c 4 (fetch0_4 _) d4)
  ihave HO' := (debt_elim (dat₀ m c) _) $$ HO
  icases HO' with ⟨%W, HO⟩
  rw [show (dat₀ m c).owed (t0_0 : Fin cfg0.N).castSucc = O₀ c from rfl]
  iapply (body_run (inputs m) K c W _)
  unfold bodyPre bodyPost staged
  isplitr [Hreg]
  · isplitl [Hg]; · iexact Hg
    isplitl [Hc0]; · iexact Hc0
    isplitl [Hc2]; · iexact Hc2
    isplitl [Hlev]; · iexact Hlev
    isplitl [Hs]; · iexact Hs
    isplitl [Hr]; · iexact Hr
    isplitl [H0 H1 H2 H3 H4]
    · isplitl [H0]; · iexact H0
      isplitl [H1]; · iexact H1
      isplitl [H2]; · iexact H2
      isplitl [H3] <;> iassumption
    isplitl [H5]; · iexists g5; iexact H5
    iexact HO
  iintro ⟨Hz0, Hz1, Hz2, Hs, Hr, ⟨H0, H1, H2, H3, H4⟩, H5, ⟨%W', HO⟩⟩
  isplitl [Hz0 Hz1 Hz2 Hs Hr Hreg]
  · isplitl [Hz0]; · iexact Hz0
    isplitl [Hz1 Hz2]; · isplitl [Hz1] <;> iassumption
    isplitl [Hs]; · iexact Hs
    isplitl [Hr]; · iexact Hr
    iexact Hreg
  isplitl [HO]; · iapply (debt_intro (dat₀ m c) (t0_0 : Fin cfg0.N).succ rfl W'); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

end Cert.PagedAttn

end
-- ==== Proof.Kernel.lean ====
/-
  The kernel as a step of the host program: the buffers before and after it, and what passes it by.
-/
module

public import proofs.«01_k».proof.Proof.Region
public import Idealize.ShloMosaic.Init
public import Idealize.ShloMosaic.Adequacy

@[expose] public section

noncomputable section

namespace Cert.PagedAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

variable (ρ : Dev nD → PrngReg)

/-! ## The program's buffers -/

/-- The buffers that live for the whole program. -/
def kept : Finset (DevRef τ sig) := (StableHlo.tcRefs τ sig).filter fun b => ¬ b.isScoped

/-- Those no window of the kernel stages. -/
abbrev others : Finset (DevRef τ sig) := kept \ Pipeline.arrRefs (τ := τ) spec0

/-- Device c's buffers at launch, when the kernel starts, and when it is done. -/
abbrev at₀ (c : Dev nD) : Valuation τ sig (Elt F) := fun b => m (c, b)
abbrev at₁ (c : Dev nD) : Valuation τ sig (Elt F) := StableHlo.after hostOps0 (at₀ m c)
/-- The array the kernel writes, at the end. -/
abbrev written (c : Dev nD) : Buf (Elt F) ((c : Thread nD τ).loc main_v4) := (dat₀ m c).arrAt (5 : Fin 6) cfg0.N
def at₂ (c : Dev nD) : Valuation τ sig (Elt F) := Function.update (at₁ m c) (Proc.devRef .tc main_v4) (written m c)

theorem at₂_ne (c : Dev nD) (b : DevRef τ sig) (h : b ≠ Proc.devRef .tc main_v4) : at₂ m c b = at₁ m c b :=
  Function.update_of_ne h _ _
theorem at₂_out (c : Dev nD) : at₂ m c (Proc.devRef .tc main_v4) = written m c := Function.update_self _ _ _

theorem unscoped_kept (c : Dev nD) (W : Valuation τ sig (Elt F)) :
    (unscopedBufs c (fun b => W b) : sProp 𝕄) = StableHlo.held (c : Thread nD τ) kept W := by
  unfold unscopedBufs StableHlo.held kept StableHlo.tcRefs
  rw [Finset.filter_map, BI.bigSep_map]
  rfl

theorem staged_kept : Pipeline.arrRefs (τ := τ) spec0 ⊆ kept := by decide
theorem host_kept : ∀ op ∈ (hostOps0 : List (HloOp τ sig (Elt F))), op.bufs ⊆ kept := by
  intro op h
  simp only [hostOps0, List.mem_cons, List.not_mem_nil, or_false] at h
  rcases h with rfl | rfl | rfl
  · show ({Proc.devRef .tc main_arg1, Proc.devRef .tc main_v1} : Finset (DevRef τ sig)) ⊆ kept; decide
  · show ({Proc.devRef .tc main_arg2, Proc.devRef .tc main_v2} : Finset (DevRef τ sig)) ⊆ kept; decide
  · show ({Proc.devRef .tc main_arg4, Proc.devRef .tc main_v3} : Finset (DevRef τ sig)) ⊆ kept; decide
theorem host_fresh : ∀ op ∈ (hostOps0 : List (HloOp τ sig (Elt F))), op.fresh = ∅ := List.forall_iff_forall_mem.mp hostOps0_fresh

/-! ## The kernel's region -/

abbrev ownSem : Fin 2 → SemLoc sig := fun k => talkSem k.succ
theorem own_facts : Pipeline.OwnSemFacts spec0 ownSem := by decide
theorem ownSems_eq (c : Dev nD) : (Pipeline.ownSems0 ownSem c : sProp 𝕄) = iprop(semVal (cell 1 c) 0 ∗ semVal (cell 2 c) 0) :=
  BI.bigSep_fin_two (fun k : Fin 2 => (semVal ((c : Thread nD τ), ownSem k) 0 : sProp 𝕄))

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat₀ m

/-- What is kept for the kernel from launch on, and what its body starts from. -/
def toKernel (c : Dev nD) : sProp 𝕄 :=
  iprop((∃ K, ghost (inputs m) K c) ∗ cred (tallyAt (cell 0 c) () 1) ∗ cred (tallyAt (cell 2 c) () N))
def inKernel (c : Dev nD) : sProp 𝕄 :=
  iprop((∃ K, opened (inputs m) K c) ∗ cred (tallyAt (cell 0 c) () 1) ∗ cred (tallyAt (cell 2 c) () N) ∗ levAts L lv)

/-- The kernel's own two semaphores are taken into use when it starts. -/
theorem enter (c : Dev nD) : iprop(toKernel m c ∗ Pipeline.ownSems0 ownSem c ∗ levAts L lv) ⊢ (|={Set.univ}=> inKernel m c : sProp 𝕄) := by
  rw [ownSems_eq]
  unfold toKernel inKernel
  iintro ⟨⟨⟨%K, Hg⟩, Hc0, Hc2⟩, ⟨Hv1, Hv2⟩, #Hlev⟩
  unfold ghost invs
  icases Hg with ⟨⟨#HI0, #HI1, #HI2, #HI0P, #HI2P⟩, Hat0, Ho1, Ho2, #Hr0P, Htok⟩
  imod (Rounds.cell_open ER (talk (inputs m)) (g := cell 1 c) (Set.mem_univ (K (cell 1 c)))) $$ [Ho1 Hv1] with ⟨Hat1, #Hr1⟩
  · isplitr; · iexact HI1
    isplitl [Ho1] <;> iassumption
  imod (Rounds.cell_open ER (talk (inputs m)) (g := cell 2 c) (Set.mem_univ (K (cell 2 c)))) $$ [Ho2 Hv2] with ⟨Hat2, #Hr2⟩
  · isplitr; · iexact HI2
    isplitl [Ho2] <;> iassumption
  imodintro
  isplitl [Hat0 Hat1 Hat2 Htok]
  · iexists K; unfold opened invs
    isplitr
    · isplitr; · iexact HI0
      isplitr; · iexact HI1
      isplitr; · iexact HI2
      isplitr; · iexact HI0P
      iexact HI2P
    isplitl [Hat0]; · iexact Hat0
    isplitl [Hat1]; · iexact Hat1
    isplitl [Hat2]; · iexact Hat2
    isplitr; · iexact Hr0P
    isplitr; · iexact Hr1
    isplitr; · iexact Hr2
    iexact Htok
  isplitl [Hc0]; · iexact Hc0
  isplitl [Hc2]; · iexact Hc2
  iexact Hlev

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_first (c : Dev nD) : (pdats (F := F) m 0 c).owed 0 = O₀ c := rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- A device owes only to the opposite one's barrier and arrivals. -/
theorem owes_to {c : Dev nD} {g : GSem nD τ sig} {u : Unit} (h : 0 < O₀ c g u) : g = cell 2 (peer c) ∨ g = cell 0 (peer c) := by
  unfold O₀ at h
  rw [Pi.add_apply, Finsupp.add_apply, tallyAt_apply, tallyAt_apply] at h
  by_contra hn
  rw [not_or] at hn
  rw [if_neg fun e => hn.1 e.1, if_neg fun e => hn.2 e.1] at h
  exact Nat.lt_irrefl 0 h

/-- Both stand above the staging copies' semaphores. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases owes_to h with rfl | rfl
    · exact ⟨by rw [L_tc]; exact Finset.mem_singleton_self _, by unfold lv; rw [if_neg ne20, if_pos rfl]; decide⟩
    · exact ⟨by rw [L_tc]; exact Finset.mem_singleton_self _, by unfold lv; rw [if_pos rfl]; decide⟩
  · exact absurd h (Nat.lt_irrefl 0)

theorem stage_sems : ∀ (w : Fin 6) (s : Fin (spec0 w).nbuf),
    (SemLoc.dma ((spec0 w).sem s) : SemLoc sig) ≠ talkSem 0 ∧ (SemLoc.dma ((spec0 w).sem s) : SemLoc sig) ≠ talkSem 2 := by decide

theorem cut : Pipeline.LevelCutOwed (pcfgs (F := F)) adm (pdats m) () L lv 0 (fun _ => 0) where
  hι c w s := by rw [L_tc]; exact Finset.mem_singleton_self _
  hιb c w s := le_of_eq (by unfold lv; exact (if_neg (stage_sems w s).1).trans (if_neg (stage_sems w s).2))
  hD c t g i h := owed_above m c t g i h

theorem rest_eq (c : Dev nD) :
    (Pipeline.scopedRest (Ix := Unit) (Name := ℕ) (U := UU) (Lvl := ℕ) (Val := Elt F) (Pipeline.pin (pcfgs (F := F)) adm 0).spec c : sProp 𝕄)
      = iprop((∃ f, sendAt c f) ∗ ∃ f, recvAt c f) := scopedRest0_eq c

theorem held_none (c : Dev nD) (W : Valuation τ sig (Elt F)) : (StableHlo.held (c.tc : Thread nD τ) ∅ W : sProp 𝕄) = BI.emp := by
  unfold StableHlo.held; exact BI.bigSep_empty

theorem body_in (c : Dev nD) : iprop(Pipeline.scopedRest (Pipeline.pin (pcfgs (F := F)) adm 0).spec c ∗ (∃ r, prngReg c r)
      ∗ StableHlo.held (c.tc : Thread nD τ) ∅ (at₁ m c) ∗ inKernel m c) ⊢ (pdats m 0 c).Φ 0 := by
  rw [show (pdats m 0 c).Φ 0 = before₀ m c from rfl, rest_eq]
  unfold before₀ inKernel
  iintro ⟨⟨Hs, Hr⟩, Hp, -, HK, Hc0, Hc2, Hlev⟩
  isplitl [HK]; · iexact HK
  isplitl [Hc0]; · iexact Hc0
  isplitl [Hc2]; · iexact Hc2
  isplitl [Hlev]; · iexact Hlev
  isplitl [Hs]; · iexact Hs
  isplitl [Hr] <;> iassumption

theorem body_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (at₂ m c) ∗ Pipeline.ownSems0 ownSem c ∗ semVal (cell 0 c) 0) := by
  rw [show (pdats m 0 c).Φ (Fin.last _) = after₀ c from rfl, rest_eq, ownSems_eq, held_none]
  unfold after₀
  iintro ⟨Hz0, Hz, Hs, Hr, Hp⟩
  isplitl [Hs Hr]; · isplitl [Hs] <;> iassumption
  isplitl [Hp]; · iexact Hp
  isplitr; · iempintro
  isplitl [Hz] <;> iassumption

theorem arr_in (c : Dev nD) (w : Fin 6) (h : w ≠ 5) : (dat₀ m c).arrAt w cfg0.N = at₂ m c (Proc.devRef .tc (Pipeline.arrRef spec0 w)) := by
  have ho : (cfg0.win w).isOut = false := by
    revert h; revert w; decide
  have hb : (Proc.devRef .tc (Pipeline.arrRef spec0 w) : DevRef τ sig) ≠ Proc.devRef .tc main_v4 := by
    revert h; revert w; decide
  rw [at₂_ne m c _ hb]
  exact (dat₀ m c).arrAt_in w ho _

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the kernel. -/
def aside (c : Dev nD) : sProp 𝕄 := iprop(start (inputs m) c ∗ ∃ W, owes (c : Thread nD τ) (O₀ c) W)

/-- The host operations before the kernel. -/
def seg₀ : ℍ := Pipeline.HostSeg.ofOps _ _ _ _ _ kept hostOps0 host_kept host_fresh (at₀ m) (aside m)

set_option backward.isDefEq.respectTransparency.types false in
/-- The kernel. -/
def reg₀ : ℝ𝕊 0 :=
  Pipeline.RegionSeg.ofTalk (pcfgs (F := F)) adm (pdats m) () defs₀ 𝒱₀ L lv 0 ownSem own_facts
    ∅ others (Finset.empty_subset _) kit rfl (fun c => (body_meets m c).loose)
    (fun _ => 0) O₀ (fun c => (owed_first m c).trans (zero_add _).symm) (owed_last m) (fun _ => rfl)
    (fun c w => by unfold Dat.share; split <;> rfl)
    (at₁ m) (at₂ m)
    (fun c b hb => at₂_ne m c b (fun e => by
      subst e
      rw [Finset.sdiff_empty] at hb
      exact (Finset.mem_sdiff.mp hb).2 (by decide)))
    (toKernel m) (fun c => semVal (cell 0 c) 0) (inKernel m) (fun c => semVal (cell 0 c) 0) (enter m) (body_in m) (body_out m)
    (fun c => by iintro H; imodintro; iexact H)
    (fun _ => 0) (cut m) (fun _ => iprop(emp))
    (fun _ _ => rfl)
    (fun c w => by
      by_cases h : (w : Fin 6) = 5
      · subst h; exact (at₂_out m c).symm
      · exact arr_in m c w h)

theorem reg₀_pre (c : Dev nD) : iprop(StableHlo.held (c : Thread nD τ) kept (at₁ m c) ∗ aside m c) ⊢ (reg₀ m).pre c := by
  show _ ⊢ iprop(StableHlo.held (c.tc : Thread nD τ) (Pipeline.arrRefs (τ := τ) spec0) (at₁ m c) ∗ (∃ r, prngReg c r)
    ∗ (StableHlo.held (c.tc : Thread nD τ) others (at₁ m c) ∗ emp) ∗ toKernel m c ∗ ∃ Wd, owes (c : Thread nD τ) (0 + O₀ c) Wd)
  rw [zero_add, StableHlo.held_sub_split (c : Thread nD τ) staged_kept (at₁ m c)]
  unfold aside start toKernel
  iintro ⟨⟨Ha, Hh⟩, ⟨HK, H1, H2, Hp⟩, HO⟩
  isplitl [Ha]; · iexact Ha
  isplitl [Hp]; · iexact Hp
  isplitl [Hh]
  · isplitl [Hh]; · iexact Hh
    iempintro
  isplitl [HK H1 H2]
  · isplitl [HK]; · iexact HK
    isplitl [H1] <;> iassumption
  iexact HO

theorem reg₀_post (c : Dev nD) : (reg₀ m).post c
    ⊢ iprop((StableHlo.held (c : Thread nD τ) kept (at₂ m c) ∗ semVal (cell 0 c) 0)
        ∗ ∃ W, owes (c : Thread nD τ) (0 : CellTallies nD τ sig Unit) W) := by
  show iprop(StableHlo.held (c.tc : Thread nD τ) (Pipeline.arrRefs (τ := τ) spec0) (at₂ m c) ∗ (∃ r, prngReg c r)
    ∗ (StableHlo.held (c.tc : Thread nD τ) others (at₂ m c) ∗ emp) ∗ semVal (cell 0 c) 0
    ∗ ∃ Wd, owes (c : Thread nD τ) (0 : CellTallies nD τ sig Unit) Wd) ⊢ _
  rw [StableHlo.held_sub_split (c : Thread nD τ) staged_kept (at₂ m c)]
  iintro ⟨Ha, -, ⟨Hh, -⟩, Hb, HO⟩
  isplitr [HO]
  · isplitr [Hb]
    · isplitl [Ha] <;> iassumption
    · iexact Hb
  iexact HO

abbrev segs : List (Pipeline.Seg (pcfgs (F := F)) adm (pdats m) () defs₀ 𝒱₀ L lv) := [.host (seg₀ m), .region (reg₀ m)]

end Cert.PagedAttn

end
-- ==== Proof.Launch.lean ====
/-
  The launch: the semaphores' bookkeeping is set up and dealt to the devices, the host operations and the kernel's
  region are run in order, and what the memory holds at the end is read off.
-/
module

public import proofs.«01_k».proof.Proof.Kernel

@[expose] public section

noncomputable section

namespace Cert.PagedAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

variable (ρ : Dev nD → PrngReg)

/-! ## The semaphores and the payments, over all devices -/

def barEmb : Dev nD ↪ GSem nD τ sig := ⟨fun c => cell 0 c, fun _ _ h => congrArg (fun g : GSem nD τ sig => g.1.1) h⟩
theorem ownSem_inj : Function.Injective ownSem := by decide
def ownEmb : Dev nD × Fin 2 ↪ GSem nD τ sig :=
  ⟨fun x => ((x.1 : Thread nD τ), ownSem x.2), fun _ _ h =>
    Prod.ext (congrArg (fun g : GSem nD τ sig => g.1.1) h) (ownSem_inj (congrArg Prod.snd h))⟩
def tokEmb : Dev nD × Fin 3 ↪ GSem nD τ sig × ℕ × Unit :=
  ⟨fun x => (cell x.2 x.1, 0, ()), fun _ _ h =>
    Prod.ext (congrArg (fun t : GSem nD τ sig × ℕ × Unit => t.1.1.1) h) (talkSem_inj (congrArg (fun t : GSem nD τ sig × ℕ × Unit => t.1.2) h))⟩

/-- In use from launch on; put in use by the kernel; and all the payments. -/
abbrev barCells : Finset (GSem nD τ sig) := Finset.univ.map barEmb
abbrev ownCells : Finset (GSem nD τ sig) := Finset.univ.map ownEmb
abbrev payments : Finset (GSem nD τ sig × ℕ × Unit) := Finset.univ.map tokEmb

theorem cells_apart : Disjoint (barCells : Finset (GSem nD τ sig)) ownCells := by
  refine Finset.disjoint_left.mpr fun g h₁ h₂ => ?_
  obtain ⟨c, -, rfl⟩ := Finset.mem_map.mp h₁
  obtain ⟨x, -, h⟩ := Finset.mem_map.mp h₂
  exact Fin.succ_ne_zero x.2 (talkSem_inj (congrArg Prod.snd h))

theorem cell_mem (k : Fin 3) (c : Dev nD) : cell k c ∈ (barCells ∪ ownCells : Finset (GSem nD τ sig)) := by
  match k with
  | 0 => exact Finset.mem_union_left _ (Finset.mem_map_of_mem barEmb (Finset.mem_univ c))
  | 1 => exact Finset.mem_union_right _ (Finset.mem_map_of_mem ownEmb (Finset.mem_univ (c, (0 : Fin 2))))
  | 2 => exact Finset.mem_union_right _ (Finset.mem_map_of_mem ownEmb (Finset.mem_univ (c, (1 : Fin 2))))

/-- The bookkeeping the program is launched with. -/
def u₀ : UU := (initOf (Pipeline.cells (Pipeline.pin (pcfgs (F := F)) adm) cellOf_inj) (Pipeline.launchToks (Pipeline.pin (pcfgs (F := F)) adm) cellOf_inj),
  launchOf barCells ownCells payments)

/-- X on device 0, nothing elsewhere. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
abbrev talkStart : sProp 𝕄 := BI.own (ER (launchOf barCells ownCells payments))

/-- What every device may look up. -/
def known (κ : GSem nD τ sig → ℕ) : sProp 𝕄 :=
  iprop((bigSep (barCells ∪ ownCells) fun g => cellInv ER (talk (inputs m)) (κ g) g) ∗ bigSep barCells fun g => reached ER g 0)
instance known_persistent (κ : GSem nD τ sig → ℕ) : BI.Persistent (known m κ) := by unfold known; infer_instance

theorem inv_of (κ : GSem nD τ sig → ℕ) {g : GSem nD τ sig} (hg : g ∈ (barCells ∪ ownCells : Finset (GSem nD τ sig))) :
    (bigSep (barCells ∪ ownCells) fun g => (cellInv ER (talk (inputs m)) (κ g) g : sProp 𝕄)) ⊢ cellInv ER (talk (inputs m)) (κ g) g :=
  bigSep_elim hg
theorem bar_of (c : Dev nD) : (bigSep barCells fun g => (reached ER g 0 : sProp 𝕄)) ⊢ reached ER (cell 0 c) 0 :=
  bigSep_elim (Finset.mem_map_of_mem barEmb (Finset.mem_univ c))

theorem known_inv (κ : GSem nD τ sig → ℕ) (k : Fin 3) (c : Dev nD) : known m κ ⊢ cellInv ER (talk (inputs m)) (κ (cell k c)) (cell k c) := by
  unfold known
  iintro ⟨H, -⟩
  iapply (inv_of m κ (cell_mem k c)) $$ H
theorem known_bar (κ : GSem nD τ sig → ℕ) (c : Dev nD) : known m κ ⊢ reached ER (cell 0 c) 0 := by
  unfold known
  iintro ⟨-, H⟩
  iapply (bar_of (F := F) c) $$ H

/-- What is device c's alone. -/
def own₀ (c : Dev nD) : sProp 𝕄 :=
  iprop(atPos ER (cell 0 c) 0 ∅ 0 ∗ (openTok ER (cell 1 c) ∗ openTok ER (cell 2 c)) ∗ toPay c)

theorem ghost_of (κ : GSem nD τ sig → ℕ) (c : Dev nD) : iprop(known m κ ∗ own₀ c) ⊢ iprop(∃ K, ghost (inputs m) K c) := by
  unfold own₀ ghost invs
  iintro ⟨#HK, Hat, ⟨Ho1, Ho2⟩, Htok⟩
  iexists κ
  isplitr
  · isplitr; · iapply (known_inv m κ 0 c); iexact HK
    isplitr; · iapply (known_inv m κ 1 c); iexact HK
    isplitr; · iapply (known_inv m κ 2 c); iexact HK
    isplitr; · iapply (known_inv m κ 0 (peer c)); iexact HK
    iapply (known_inv m κ 2 (peer c)); iexact HK
  isplitl [Hat]; · iexact Hat
  isplitl [Ho1]; · iexact Ho1
  isplitl [Ho2]; · iexact Ho2
  isplitr; · iapply (known_bar m κ (peer c)); iexact HK
  iexact Htok

theorem three (Φ : Fin 3 → sProp 𝕄) : bigSep Finset.univ Φ = iprop(Φ 0 ∗ Φ 1 ∗ Φ 2) :=
  bigSep_univ_eq_bigSepL [0, 1, 2] (by decide) (by decide) Φ

/-- The payments on the barrier and on the arrivals are the opposite device's to make. -/
theorem payments_dealt : bigSep payments (fun x => (dutyTok ER x.1 x.2.1 x.2.2 : sProp 𝕄)) ⊢ bigSep Finset.univ fun c : Dev nD => toPay c := by
  have h : bigSep payments (fun x => (dutyTok ER x.1 x.2.1 x.2.2 : sProp 𝕄))
      = bigSep Finset.univ fun c : Dev nD => iprop(dutyTok ER (cell 0 c) 0 () ∗ dutyTok ER (cell 1 c) 0 () ∗ dutyTok ER (cell 2 c) 0 ()) := by
    rw [bigSep_map, bigSep_univ_prod]
    exact bigSep_congr fun c _ => three _
  unfold toPay
  rw [h, bigSep_sep', bigSep_sep', bigSep_sep', bigSep_sep',
    bigSep_univ_equiv peers (fun c : Dev nD => (dutyTok ER (cell 0 c) 0 () : sProp 𝕄)),
    bigSep_univ_equiv peers (fun c : Dev nD => (dutyTok ER (cell 2 c) 0 () : sProp 𝕄))]
  iintro ⟨H0, H1, H2⟩
  isplitl [H0]; · iexact H0
  isplitl [H2]; · iexact H2
  iexact H1

/-- A part for each of two kinds is a part of both. -/
theorem paired (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
theorem unpaired (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-! ## The waits each device is due -/

theorem owed_to (k : Fin 3) (hk : k ≠ 1) (d c : Dev nD) : O₀ d (cell k c) () = if d = peer c then amt k else 0 := by
  unfold O₀
  rw [Pi.add_apply, Finsupp.add_apply, tallyAt_apply, tallyAt_apply]
  by_cases h : d = peer c
  · subst h
    rw [peer_peer]
    match k with
    | 0 => rw [if_neg fun e => ne20 (congrArg Prod.snd e.1).symm, if_pos ⟨rfl, rfl⟩, if_pos rfl]; rfl
    | 1 => exact absurd rfl hk
    | 2 => rw [if_pos ⟨rfl, rfl⟩, if_neg fun e => ne20 (congrArg Prod.snd e.1), if_pos rfl]; rfl
  · have hn : ∀ j : Fin 3, ¬ (cell k c = cell j (peer d) ∧ () = ()) := fun j e => h (by
      rw [show c = peer d from congrArg (fun g : GSem nD τ sig => g.1.1) e.1, peer_peer])
    rw [if_neg (hn 2), if_neg (hn 0), if_neg h]

theorem due_at (k : Fin 3) (hk : k ≠ 1) (c : Dev nD) :
    tallyOn (cell k c) (launchCredit (Pipeline.owing O₀) 0 (cell k c)) = (tallyAt (cell k c) () (amt k) : CellTallies nD τ sig Unit) := by
  unfold tallyAt
  refine congrArg _ (Finsupp.ext fun u => ?_)
  cases u
  rw [Pipeline.launchCredit_owing, Finsupp.single_eq_same, Finset.sum_congr rfl fun d _ => owed_to k hk d c,
    Finset.sum_ite_eq' Finset.univ (peer c) fun _ => amt k, if_pos (Finset.mem_univ _)]

theorem due (c : Dev nD) : (Pipeline.launchCred O₀ c : sProp 𝕄) ⊢ iprop(cred (tallyAt (cell 0 c) () 1) ∗ cred (tallyAt (cell 2 c) () N)) := by
  unfold Pipeline.launchCred
  rw [bigSep_univ_at _ (talkSem 0), due_at 0 (by decide)]
  refine sep_mono_right ?_
  rw [show (tallyAt (cell 2 c) () N : CellTallies nD τ sig Unit) = tallyOn (cell 2 c) (launchCredit (Pipeline.owing O₀) 0 (cell 2 c)) from (due_at 2 (by decide) c).symm]
  exact bigSep_elim (Finset.mem_erase.mpr ⟨ne20, Finset.mem_univ _⟩)

/-! ## The launch -/

theorem only_bar : ∀ s : SemLoc sig, s.isScoped .tc = false → s = talkSem 0 := by decide
theorem unscopedSems_eq (c : Dev nD) : (unscopedSems0 c : sProp 𝕄) = semVal (cell 0 c) 0 := by
  unfold unscopedSems0
  rw [show (Finset.univ.filter fun s : SemLoc sig => ¬ s.isScoped .tc) = {talkSem 0} from by decide, BI.bigSep_singleton]

abbrev first (c : Dev nD) : sProp 𝕄 := iprop(StableHlo.held (c : Thread nD τ) kept (at₀ m c) ∗ aside m c)
abbrev last (c : Dev nD) : sProp 𝕄 := iprop(StableHlo.held (c : Thread nD τ) kept (at₂ m c) ∗ semVal (cell 0 c) 0)

/-- A device's share of the launch beside the talk's bookkeeping. -/
def plain (c : Dev nD) : sProp 𝕄 :=
  iprop(StableHlo.held (c : Thread nD τ) kept (at₀ m c) ∗ cred (tallyAt (cell 0 c) () 1) ∗ cred (tallyAt (cell 2 c) () N)
    ∗ owes (c : Thread nD τ) (O₀ c) ∅ ∗ ∃ r, prngReg c r)

theorem first_of (κ : GSem nD τ sig → ℕ) (c : Dev nD) : iprop(known m κ ∗ (own₀ c ∗ plain m c)) ⊢ first m c := by
  unfold plain first aside start
  iintro ⟨#HR, Hl, Hh, H1, HN, HO, Hp⟩
  isplitl [Hh]; · iexact Hh
  isplitr [HO]
  · isplitl [Hl]
    · iapply (ghost_of m κ c)
      isplitr; · iexact HR
      iexact Hl
    isplitl [H1]; · iexact H1
    isplitl [HN] <;> iassumption
  iexists ∅; iexact HO

abbrev launched (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ onFirst talkStart c)

theorem launched_plain (c : Dev nD) : launched m ρ c ⊢ iprop(plain m c ∗ (semVal (cell 0 c) 0 ∗ onFirst talkStart c)) := by
  unfold launched plain
  rw [show unscopedBufs c (fun b => m ((c : Thread nD τ).loc b)) = StableHlo.held (c : Thread nD τ) kept (at₀ m c) from unscoped_kept c (at₀ m c),
    unscopedSems_eq]
  iintro ⟨Hh, Hs, HO, Hcr, Hp, HG⟩
  ihave Hc := (due (F := F) c) $$ Hcr
  icases Hc with ⟨H1, HN⟩
  isplitl [Hh H1 HN HO Hp]
  · isplitl [Hh]; · iexact Hh
    isplitl [H1]; · iexact H1
    isplitl [HN]; · iexact HN
    isplitl [HO]; · iexact HO
    iexists (ρ c); iexact Hp
  isplitl [Hs] <;> iassumption

/-- The bookkeeping is set up and every device dealt its part. -/
theorem deal : iprop((bigSep Finset.univ fun c : Dev nD => launched m ρ c) ∗ levAts L lv) ⊢ (|={Set.univ}=> bigSep Finset.univ (first m) : sProp 𝕄) := by
  have hv : bigSep Finset.univ (fun c : Dev nD => (semVal (cell 0 c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell 0 c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄)) ⊢ bigSep Finset.univ (fun c : Dev nD => iprop(openTok ER (cell 1 c) ∗ openTok ER (cell 2 c))) :=
    Entails.of_eq (by
      rw [bigSep_map, bigSep_univ_prod]
      exact bigSep_congr fun c _ => BI.bigSep_fin_two (fun k : Fin 2 => (openTok ER ((c : Thread nD τ), ownSem k) : sProp 𝕄)))
  iintro ⟨H, -⟩
  ihave H' := (show (bigSep Finset.univ fun c : Dev nD => launched m ρ c)
      ⊢ (bigSep Finset.univ fun c : Dev nD => iprop(plain m c ∗ (semVal (cell 0 c) 0 ∗ onFirst talkStart c)) : sProp 𝕄) from
    bigSep_mono fun c _ => launched_plain m ρ c) $$ H
  ihave H2 := (unpaired (F := F) _ _) $$ H'; icases H2 with ⟨HB, H3⟩
  ihave H4 := (unpaired (F := F) _ _) $$ H3; icases H4 with ⟨Hv, HG⟩
  ihave Hu := (Entails.of_eq (onFirst_all (F := F) talkStart)) $$ HG
  imod (Rounds.fund_launch ER (talk (inputs m)) cells_apart (fun g _ h => h) payments) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(own₀ c ∗ plain m c)) fun c _ => first_of m κ c)
  isplitr
  · unfold known
    isplitr; · iexact Hinv
    iexact Hr
  iapply (paired (F := F) _ _)
  isplitr [HB]
  · unfold own₀
    iapply (paired (F := F) _ _); isplitl [Hat]; · iapply hat $$ Hat
    iapply (paired (F := F) _ _); isplitl [Hopen]; · iapply ho $$ Hopen
    iapply (payments_dealt (F := F)) $$ Htok
  · iexact HB

/-! ## The run -/

theorem kept_eq (c : Dev nD) (W : Valuation τ sig (Elt F)) : (StableHlo.held (c : Thread nD τ) kept W : sProp 𝕄)
    = iprop(held c main_arg0 (W main_arg0) ∗ held c main_arg1 (W main_arg1) ∗ held c main_arg2 (W main_arg2)
      ∗ held c main_arg3 (W main_arg3) ∗ held c main_arg4 (W main_arg4) ∗ held c main_v1 (W main_v1)
      ∗ held c main_v2 (W main_v2) ∗ held c main_v3 (W main_v3) ∗ held c main_v4 (W main_v4)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3, Proc.devRef .tc main_v4] (by decide) (by decide)]
  rfl

/-- Device c's memory at the end: the arguments as they were, the result as written. -/
def AtEnd (c : Dev nD) (mem : (ℓ : Loc nD τ sig) → Buf (Elt F) ℓ) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_v4) = written m c

set_option backward.isDefEq.respectTransparency.types false in
/-- The whole program's run on the four devices, from any memory: it ends, with the arguments unchanged, the result as
    written, and every semaphore at zero. -/
theorem run_main : θ_run defs (onTc (τ := τ) (main (F := F))) (s₀ m ρ)
    (fun r => (∀ c : Dev nD, AtEnd m c r.2.mem) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg₀ m) (reg₀ m) rfl c])
    (by simp only [segs, Pipeline.Seg.pipes_host, Pipeline.Seg.pipes_region, Pipeline.Seg.pipes_nil]; decide)
    (O₀ := O₀) (hL := L_of_ne) (G := onFirst talkStart) (u₀ := u₀)
    (hu₀ := by
      unfold u₀
      iintro Hu
      ihave H := (ownU_pair _ _) $$ Hu
      icases H with ⟨HP, HX⟩
      imodintro
      isplitl [HP]; · iexact HP
      rw [onFirst_all]; iexact HX)
    (T₀ := first m) (Tₙ := last m)
    (hch := by
      refine ⟨fun c => .rfl, fun c => reg₀_pre m c, fun c => reg₀_post m c⟩)
    (hinit := deal m ρ)
    (QY := fun c s => AtEnd m c s.mem ∧ s.sem (cell 0 c) = 0)
    (hfin := fun c s' => by
      dsimp only [last]; rw [kept_eq]
      iintro ⟨⟨⟨H0, H1, H2, H3, H4, -, -, -, Ho⟩, Hb⟩, HSI⟩
      icombine HSI H0 gives %h0
      icombine HSI H1 gives %h1
      icombine HSI H2 gives %h2
      icombine HSI H3 gives %h3
      icombine HSI H4 gives %h4
      icombine HSI Ho gives %ho
      icombine HSI Hb gives %hb
      imodintro
      isplitr
      · ipureintro
        refine ⟨⟨?_, ?_, ?_, ?_, ?_, ?_⟩, by simpa using hb⟩
        · exact (Buf.eq_of_forall_mem_univ h0).trans ((at₂_ne m c _ (by decide)).trans (V_main_arg0 m c))
        · exact (Buf.eq_of_forall_mem_univ h1).trans ((at₂_ne m c _ (by decide)).trans (V_main_arg1 m c))
        · exact (Buf.eq_of_forall_mem_univ h2).trans ((at₂_ne m c _ (by decide)).trans (V_main_arg2 m c))
        · exact (Buf.eq_of_forall_mem_univ h3).trans ((at₂_ne m c _ (by decide)).trans (V_main_arg3 m c))
        · exact (Buf.eq_of_forall_mem_univ h4).trans ((at₂_ne m c _ (by decide)).trans (V_main_arg4 m c))
        · exact (Buf.eq_of_forall_mem_univ ho).trans (at₂_out m c)
      iexact HSI)
    (hQ := fun s h hs => ⟨fun c => (h c).1,
      sem_eq_zero hs fun c sm hsm => by
        obtain rfl := only_bar sm hsm
        exact (h c).2⟩)

/-- The run with the result dropped: the arguments are as they were and the counters are at zero. -/
theorem run_frame : θ_run defs (onTc (τ := τ) (main (F := F))) (s₀ m ρ) fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono
    (fun _ h => ⟨fun c => ⟨(h.1 c).1, (h.1 c).2.1, (h.1 c).2.2.1, (h.1 c).2.2.2.1, (h.1 c).2.2.2.2.1⟩, h.2⟩)
    (run_main m ρ)

end Cert.PagedAttn

end
-- ==== Proof.Average.lean ====
/-
  The equation behind the kernel, on the extended reals alone: a softmax average over slots is what two devices get
  that each average over their half of the pages, a page weighed by how often the slots name it, and then put their
  two averages together.
-/
module

public import Idealize.ShloMosaic.PureOps.Ideal.Laws
public import Mathlib.Data.EReal.Operations
public import Mathlib.Analysis.SpecialFunctions.Exp
public import Mathlib.Algebra.BigOperators.Fin
public import Mathlib.Logic.Equiv.Fin.Basic

@[expose] public section

noncomputable section

namespace Cert.PagedAttn

open Idealize.ShloMosaic

/-- Slot j lies before the length. -/
def inUse (len : BitVec 32) (j : Fin 128) : Prop := (BitVec.ofNat 32 j.val).slt len = true
instance (len : BitVec 32) : DecidablePred (inUse len) := fun _ => inferInstanceAs (Decidable (_ = true))

/-! ## Sums on the extended reals -/

section Sums
variable {ι : Type} (s : Finset ι)

theorem coe_sum (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A number that is neither negative nor infinite is taken into a sum. -/
theorem mul_sum_real {a : ℝ} (ha : 0 ≤ a) (f : ι → EReal) : (a : EReal) * ∑ i ∈ s, f i = ∑ i ∈ s, (a : EReal) * f i := by
  classical
  induction s using Finset.induction_on with
  | empty => simp
  | insert b t hb ih =>
    rw [Finset.sum_insert hb, Finset.sum_insert hb,
      EReal.left_distrib_of_nonneg_of_ne_top (EReal.coe_nonneg.mpr ha) (EReal.coe_ne_top _), ih]
theorem sum_mul_real {a : ℝ} (ha : 0 ≤ a) (f : ι → EReal) : (∑ i ∈ s, f i) * (a : EReal) = ∑ i ∈ s, f i * (a : EReal) := by
  rw [mul_comm, mul_sum_real s ha]
  exact Finset.sum_congr rfl fun i _ => mul_comm _ _

/-- A sum of such numbers is taken apart. -/
theorem sum_real_mul (f : ι → ℝ) (hf : ∀ i, 0 ≤ f i) (x : EReal) : ((∑ i ∈ s, f i : ℝ) : EReal) * x = ∑ i ∈ s, (f i : EReal) * x := by
  classical
  induction s using Finset.induction_on with
  | empty => simp
  | insert b t hb ih =>
    rw [Finset.sum_insert hb, Finset.sum_insert hb, EReal.coe_add,
      EReal.right_distrib_of_nonneg (EReal.coe_nonneg.mpr (hf b)) (EReal.coe_nonneg.mpr (Finset.sum_nonneg fun i _ => hf i)), ih]

end Sums

/-! ## The average over the slots -/

section Mix

variable (used : Fin 128 → Prop) [DecidablePred used] (page : Fin 128 → Fin 256)
  (s : Fin 256 → Fin 16 → ℝ) (v : Fin 256 → Fin 16 → EReal)

/-- A key's weight, with the scores measured from z. -/
def wt (z : ℝ) (j : Fin 128) (t : Fin 16) : ℝ := if used j then Real.exp (s (page j) t - z) else 0
/-- All weights. -/
def wts (z : ℝ) : ℝ := ∑ j, ∑ t, wt used page s z j t
/-- The average of the values. -/
def mix : EReal := ∑ j, ∑ t, ((wt used page s 0 j t / wts used page s 0 : ℝ) : EReal) * v (page j) t

theorem wt_nonneg (z : ℝ) (j : Fin 128) (t : Fin 16) : 0 ≤ wt used page s z j t := by
  unfold wt; split
  · exact (Real.exp_pos _).le
  · exact le_rfl
theorem wt_shift (z : ℝ) (j : Fin 128) (t : Fin 16) : wt used page s z j t = Real.exp (-z) * wt used page s 0 j t := by
  unfold wt; split
  · rw [← Real.exp_add]; congr 1; ring
  · rw [mul_zero]
theorem wts_shift (z : ℝ) : wts used page s z = Real.exp (-z) * wts used page s 0 := by
  unfold wts
  rw [Finset.mul_sum]
  refine Finset.sum_congr rfl fun j _ => ?_
  rw [Finset.mul_sum]
  exact Finset.sum_congr rfl fun t _ => wt_shift used page s z j t
variable {used} in
theorem wts_pos (hu : ∃ j, used j) (z : ℝ) : 0 < wts used page s z := by
  obtain ⟨j, hj⟩ := hu
  refine Finset.sum_pos' (fun j _ => Finset.sum_nonneg fun t _ => wt_nonneg used page s z j t)
    ⟨j, Finset.mem_univ _, Finset.sum_pos' (fun t _ => wt_nonneg used page s z j t) ⟨0, Finset.mem_univ _, ?_⟩⟩
  unfold wt; rw [if_pos hj]; exact Real.exp_pos _
theorem wt_div (z : ℝ) (j : Fin 128) (t : Fin 16) :
    wt used page s z j t / wts used page s z = wt used page s 0 j t / wts used page s 0 := by
  rw [wt_shift, wts_shift, mul_div_mul_left _ _ (Real.exp_pos _).ne']

variable {used} in
/-- Weighted sum over sum of weights, wherever the scores are measured from. -/
theorem div_eq_mix (hu : ∃ j, used j) (z : ℝ) :
    Ideal.div (∑ j, ∑ t, (wt used page s z j t : EReal) * v (page j) t) (wts used page s z : EReal) = mix used page s v := by
  have hW := wts_pos page s hu z
  have hi : 0 ≤ 1 / wts used page s z := (one_div_pos.mpr hW).le
  rw [Ideal.div_coe hW.ne', sum_mul_real _ hi]
  refine Finset.sum_congr rfl fun j _ => ?_
  rw [sum_mul_real _ hi]
  refine Finset.sum_congr rfl fun t _ => ?_
  rw [← wt_div used page s z j t, mul_right_comm, ← EReal.coe_mul, mul_one_div]

variable {used} in
/-- Each weight divided before it is used. -/
theorem sum_div_eq_mix (hu : ∃ j, used j) (z : ℝ) :
    ∑ j, ∑ t, v (page j) t * Ideal.div (wt used page s z j t : EReal) (wts used page s z : EReal) = mix used page s v := by
  have hW := wts_pos page s hu z
  refine Finset.sum_congr rfl fun j _ => Finset.sum_congr rfl fun t _ => ?_
  rw [Ideal.div_coe hW.ne', ← EReal.coe_mul, mul_one_div, wt_div used page s z j t, mul_comm]

/-- The reference's weights: unused slots score −∞. -/
theorem exp_masked (z : ℝ) (j : Fin 128) (t : Fin 16) :
    Ideal.exp ((if used j then (s (page j) t : EReal) else ⊥) - (z : EReal)) = (wt used page s z j t : EReal) := by
  unfold wt; split
  · rw [← EReal.coe_sub, Ideal.exp_coe]
  · rw [sub_eq_add_neg, EReal.bot_add]; rfl

/-! ## The average over the two halves of the pages -/

/-- Page p of half x. -/
def pg (x : Fin 2) (p : Fin 128) : Fin 256 := finProdFinEquiv (x, p)

/-- How often the slots name a page of a half. -/
def cnt (x : Fin 2) (p : Fin 128) : ℝ := ∑ j, if used j ∧ page j = pg x p then 1 else 0
theorem cnt_nonneg (x : Fin 2) (p : Fin 128) : 0 ≤ cnt used page x p :=
  Finset.sum_nonneg fun j _ => by split <;> norm_num

/-- A half's weighted sum of values. -/
theorem half_values (x : Fin 2) (z : ℝ) :
    ∑ t, ∑ p, ((cnt used page x p * Real.exp (s (pg x p) t - z) : ℝ) : EReal) * v (pg x p) t
      = ∑ t, ∑ p, ∑ j, if page j = pg x p then (wt used page s z j t : EReal) * v (page j) t else 0 := by
  refine Finset.sum_congr rfl fun t _ => Finset.sum_congr rfl fun p _ => ?_
  unfold cnt
  rw [Finset.sum_mul, sum_real_mul _ _ (fun j => mul_nonneg (by split <;> norm_num) (Real.exp_pos _).le)]
  refine Finset.sum_congr rfl fun j _ => ?_
  unfold wt
  by_cases hp : page j = pg x p <;> by_cases hu : used j <;> simp [hp, hu]
theorem half_weights (x : Fin 2) (z : ℝ) :
    ∑ t, ∑ p, cnt used page x p * Real.exp (s (pg x p) t - z)
      = ∑ t, ∑ p, ∑ j, if page j = pg x p then wt used page s z j t else 0 := by
  refine Finset.sum_congr rfl fun t _ => Finset.sum_congr rfl fun p _ => ?_
  unfold cnt
  rw [Finset.sum_mul]
  refine Finset.sum_congr rfl fun j _ => ?_
  unfold wt
  by_cases hp : page j = pg x p <;> by_cases hu : used j <;> simp [hp, hu]

/-- Every slot's page is one page of one half. -/
theorem halves {M : Type} [AddCommMonoid M] (f : Fin 128 → Fin 16 → M) :
    (∑ t, ∑ p, ∑ j, if page j = pg 0 p then f j t else 0) + (∑ t, ∑ p, ∑ j, if page j = pg 1 p then f j t else 0)
      = ∑ j, ∑ t, f j t := by
  rw [← Finset.sum_add_distrib, Finset.sum_comm (f := fun j t => f j t)]
  refine Finset.sum_congr rfl fun t _ => ?_
  have h := Fintype.sum_equiv (finProdFinEquiv (m := 2) (n := 128)) (fun xp => ∑ j, if page j = pg xp.1 xp.2 then f j t else 0)
    (fun g => ∑ j, if page j = g then f j t else 0) fun _ => rfl
  rw [Fintype.sum_prod_type, Fin.sum_univ_two] at h
  rw [h, Finset.sum_comm]
  refine Finset.sum_congr rfl fun j _ => ?_
  rw [Finset.sum_ite_eq]
  simp

/-- A half's numbers as the kernel has them: its weights are counts times exponentials, its scores right wherever the count
    is not zero. -/
structure Half (x : Fin 2) (o m z : EReal) where
  σ : Fin 16 → Fin 128 → ℝ
  μ : ℝ
  scored : ∀ t p, 0 < cnt used page x p → σ t p = s (pg x p) t
  o_eq : o = ∑ t, ∑ p, ((cnt used page x p : EReal) * Ideal.exp ((σ t p : EReal) - (μ : EReal))) * v (pg x p) t
  m_eq : m = μ
  z_eq : z = ∑ t, ∑ p, (cnt used page x p : EReal) * Ideal.exp ((σ t p : EReal) - (μ : EReal))

variable {used page s v} {x : Fin 2} {o m z : EReal}

namespace Half

theorem weight (H : Half used page s v x o m z) (y : ℝ) (t : Fin 16) (p : Fin 128) :
    ((Real.exp (H.μ - y) : ℝ) : EReal) * ((cnt used page x p : EReal) * Ideal.exp ((H.σ t p : EReal) - (H.μ : EReal)))
      = ((cnt used page x p * Real.exp (s (pg x p) t - y) : ℝ) : EReal) := by
  rw [← EReal.coe_sub, Ideal.exp_coe, ← EReal.coe_mul, ← EReal.coe_mul]
  congr 1
  rcases (cnt_nonneg used page x p).lt_or_eq with h | h
  · rw [H.scored t p h, mul_left_comm, ← Real.exp_add]
    congr 2; ring
  · rw [← h]; ring

/-- The half's values, measured from y. -/
theorem scaled_o (H : Half used page s v x o m z) (y : ℝ) :
    ((Real.exp (H.μ - y) : ℝ) : EReal) * o
      = ∑ t, ∑ p, ∑ j, if page j = pg x p then (wt used page s y j t : EReal) * v (page j) t else 0 := by
  rw [← half_values]
  refine (congrArg (((Real.exp (H.μ - y) : ℝ) : EReal) * ·) H.o_eq).trans ((mul_sum_real _ (Real.exp_pos _).le _).trans ?_)
  refine Finset.sum_congr rfl fun t _ => ?_
  rw [mul_sum_real _ (Real.exp_pos _).le]
  refine Finset.sum_congr rfl fun p _ => ?_
  rw [← mul_assoc, H.weight y t p]
/-- The half's weights, measured from y. -/
theorem scaled_z (H : Half used page s v x o m z) (y : ℝ) :
    ((Real.exp (H.μ - y) : ℝ) : EReal) * z
      = ((∑ t, ∑ p, ∑ j, if page j = pg x p then wt used page s y j t else 0 : ℝ) : EReal) := by
  rw [← half_weights, coe_sum]
  refine (congrArg (((Real.exp (H.μ - y) : ℝ) : EReal) * ·) H.z_eq).trans ((mul_sum_real _ (Real.exp_pos _).le _).trans ?_)
  refine Finset.sum_congr rfl fun t _ => ?_
  rw [mul_sum_real _ (Real.exp_pos _).le, coe_sum]
  exact Finset.sum_congr rfl fun p _ => H.weight y t p

end Half

/-- Two halves put together, as the kernel does it. -/
def join (o₁ m₁ z₁ o₂ m₂ z₂ : EReal) : EReal :=
  Ideal.div (Ideal.exp (m₁ - max m₁ m₂) * o₁ + Ideal.exp (m₂ - max m₁ m₂) * o₂)
    (Ideal.exp (m₁ - max m₁ m₂) * z₁ + Ideal.exp (m₂ - max m₁ m₂) * z₂)
theorem join_comm (o₁ m₁ z₁ o₂ m₂ z₂ : EReal) : join o₁ m₁ z₁ o₂ m₂ z₂ = join o₂ m₂ z₂ o₁ m₁ z₁ := by
  unfold join
  rw [max_comm m₁ m₂, add_comm, add_comm (Ideal.exp _ * z₁)]

/-- The two halves put together are the average over the slots. -/
theorem join_halves (hu : ∃ j, used j) {o₁ m₁ z₁ o₂ m₂ z₂ : EReal} (H₁ : Half used page s v 0 o₁ m₁ z₁)
    (H₂ : Half used page s v 1 o₂ m₂ z₂) : join o₁ m₁ z₁ o₂ m₂ z₂ = mix used page s v := by
  unfold join
  have hm : max m₁ m₂ = ((max H₁.μ H₂.μ : ℝ) : EReal) :=
    (congrArg₂ max H₁.m_eq H₂.m_eq).trans EReal.coe_strictMono.monotone.map_max.symm
  rw [hm]
  have e₁ : Ideal.exp (m₁ - ((max H₁.μ H₂.μ : ℝ) : EReal)) = ((Real.exp (H₁.μ - max H₁.μ H₂.μ) : ℝ) : EReal) :=
    congrArg (fun a => Ideal.exp (a - ((max H₁.μ H₂.μ : ℝ) : EReal))) H₁.m_eq
  have e₂ : Ideal.exp (m₂ - ((max H₁.μ H₂.μ : ℝ) : EReal)) = ((Real.exp (H₂.μ - max H₁.μ H₂.μ) : ℝ) : EReal) :=
    congrArg (fun a => Ideal.exp (a - ((max H₁.μ H₂.μ : ℝ) : EReal))) H₂.m_eq
  rw [e₁, e₂, H₁.scaled_o, H₂.scaled_o, H₁.scaled_z, H₂.scaled_z, ← EReal.coe_add, halves, halves]
  exact div_eq_mix page s v hu _

end Mix

end Cert.PagedAttn

end
-- ==== Proof.Counts.lean ====
/-
  How often a sequence names a page, as the kernel counts it, over the extended reals.
-/
module

public import proofs.«01_k».proof.Proof.Contents
public import proofs.«01_k».proof.Proof.Average
public import Idealize.ShloMosaic.Lib.Pipeline.Value
public import Idealize.ShloMosaic.Lib.ValueIdxCore
public import Idealize.ShloMosaic.Lib.IdealHost

@[expose] public section

noncomputable section

namespace Cert.PagedAttn

open Idealize.ShloMosaic Idealize.SL.Sem Cert.KernelIdeal Cert.KernelIdeal.Gen
open Idealize.ShloMosaic.ValueIdx

/-- The number of page p of the device's half. -/
def pageWord (c : Dev nD) (p : Fin 128) : BitVec 32 := BitVec.ofNat 32 (p.val + 128 * (c.val / 2))

theorem half_word (c : Dev nD) : Scalar.muli (Scalar.remsi (Scalar.divsi (Dev.word c) 2#32) 2#32) 128#32 = BitVec.ofNat 32 (128 * (c.val / 2)) := by
  revert c; decide

/-- A selection by two conditions at once. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [Scalar.select, IntOp.andi, hp, hq]

theorem slots_apply (b : Fin 16) (j p : Fin 128) : iota .tc S16x128x128 32 [1] iota_S16x128x128_d1_w32 (ix3 b j p) = BitVec.ofNat 32 j.val :=
  iota_single_apply ..
theorem pages_apply (b : Fin 16) (j p : Fin 128) : iota .tc S16x128x128 32 [2] iota_S16x128x128_d2_w32 (ix3 b j p) = BitVec.ofNat 32 p.val :=
  iota_single_apply ..
theorem lens_apply (x : IVec S16x1 32) (b : Fin 16) (j p : Fin 128) :
    broadcastTo S16x128x128 (shapeCast S16x1x1 (shapeCast S16x1 x shapeCasts_S16x1_S16x1) shapeCasts_S16x1_S16x1x1) broadcasts_S16x1x1_S16x128x128 (ix3 b j p)
      = x (ix2 b 0) := by
  rw [shapeCast_self]
  refine (broadcastTo_apply _ _ _ (ix3 b 0 0 : S16x1x1.Idx) fun a => ?_).trans (shapeCast_apply _ _ _ (ix2 b 0 : S16x1.Idx) ?_)
  · match a with
    | 0 => rfl
    | 1 => rfl
    | 2 => rfl
  · rw [Shape.rowMajor_val_two, Shape.rowMajor_val_three]
    show b.val * 1 + 0 = (b.val * 1 + 0) * 1 + 0
    omega
theorem table_apply (x : IVec S16x128 32) (b : Fin 16) (j p : Fin 128) :
    broadcastTo S16x128x128 (shapeCast S16x128x1 (shapeCast S16x128 x shapeCasts_S16x128_S16x128) shapeCasts_S16x128_S16x128x1) broadcasts_S16x128x1_S16x128x128 (ix3 b j p)
      = x (ix2 b j) := by
  rw [shapeCast_self]
  refine (broadcastTo_apply _ _ _ (ix3 b j 0 : S16x128x1.Idx) fun a => ?_).trans (shapeCast_apply _ _ _ (ix2 b j : S16x128.Idx) ?_)
  · match a with
    | 0 => rfl
    | 1 => rfl
    | 2 => rfl
  · rw [Shape.rowMajor_val_two, Shape.rowMajor_val_three]
    show b.val * 128 + j.val = (b.val * 128 + j.val) * 1 + 0
    omega

variable (c : Dev nD) (I : Inputs Ideal)

/-- How often the used slots of sequence b name page p of the device. -/
theorem pageCount_apply (b : Fin 16) (p : Fin 128) : pageCount c I (ix2 b p)
    = ∑ j : Fin 128, if inUse (I.ln (ix2 b 0)) j ∧ I.bt (ix2 b j) = pageWord c p then (1 : EReal) else 0 := by
  unfold pageCount k0_pay2
  rw [btAll_eq, lnAll_eq, half_word]
  refine (Ideal.multiReduction_add_single (φ := .f32) _ _ reduces_S16x128x128_S16x128 _ _ (ix2 b p)).trans (Finset.sum_congr (M := EReal) rfl fun (j : Fin 128) _ => ?_)
  have hl : reduces_S16x128x128_S16x128.lift (ix2 b p) j = (ix3 b j p : S16x128x128.Idx) :=
    funext fun a => Fin.ext (by match a with | 0 => rfl | 1 => rfl | 2 => rfl)
  rw [hl]
  simp only [select, andi, cmpi, addi]
  rw [slots_apply, lens_apply, table_apply, pages_apply, broadcast_apply, broadcast_apply, broadcast_apply]
  have hw : IntOp.addi (BitVec.ofNat 32 p.val) (BitVec.ofNat 32 (128 * (c.val / 2))) = pageWord c p := (BitVec.ofNat_add _ _).symm
  rw [hw]
  show Scalar.select (IntOp.andi (BitVec.ofBool ((BitVec.ofNat 32 j.val).slt (I.ln (ix2 b 0)))) (BitVec.ofBool (I.bt (ix2 b j) == pageWord c p)))
    (Ideal.ofBits .f32 0x3F800000#32) (Ideal.ofBits .f32 0x00000000#32) = _
  rw [Ideal.ofBits_one_f32, Ideal.ofBits_zero_f32]
  have h := select_and (inUse (I.ln (ix2 b 0)) j) (I.bt (ix2 b j) = pageWord c p) (1 : EReal) 0
  rw [← h]
  congr 3
  exact Bool.decide_eq_true.symm

/-! ## The same at every key -/

/-- Key k of the device: page k mod 128, position k div 128. -/
def keyPage (k : Fin 2048) : Fin 128 := ⟨k.val % 128, Nat.mod_lt _ (by decide)⟩
def keyPos (k : Fin 2048) : Fin 16 := ⟨k.val / 128, by omega⟩

/-- The word the kernel has for a key's page, … -/
def keyWord (x : BitVec 32) : BitVec 32 :=
  Scalar.select (IntOp.andi (IntOp.xori (IntOp.cmpi .slt (IntOp.remsi .vector x 128#32) 0#32) (Scalar.cmpi .slt 128#32 0#32))
    (IntOp.cmpi .ne (IntOp.remsi .vector x 128#32) 0#32)) (IntOp.addi (IntOp.remsi .vector x 128#32) 128#32) (IntOp.remsi .vector x 128#32)
/-- … is the page. -/
theorem keyWord_eq : ∀ k : Fin 2048, keyWord (BitVec.ofNat 32 k.val) = BitVec.ofNat 32 (k.val % 128) := by decide +kernel

/-- The 0-1 matrix that repeats a page's number at the page's keys. -/
theorem spread_apply (p : Fin 128) (k : Fin 2048) (x : EReal) :
    x * Scalar.select (IntOp.cmpi .eq (keyWord (BitVec.ofNat 32 k.val)) (BitVec.ofNat 32 p.val)) (1 : EReal) 0 = if keyPage k = p then x else 0 := by
  rw [keyWord_eq]
  by_cases h : keyPage k = p
  · subst h
    rw [if_pos rfl]
    simp [Scalar.select, IntOp.cmpi, keyPage]
  · rw [if_neg h]
    have hne : ¬ BitVec.ofNat 32 (k.val % 128) = BitVec.ofNat 32 p.val := fun e => h (Fin.ext (by
      have e' := congrArg BitVec.toNat e
      rw [BitVec.toNat_ofNat, BitVec.toNat_ofNat] at e'
      show k.val % 128 = p.val
      omega))
    have hb : (BitVec.ofNat 32 (k.val % 128) == BitVec.ofNat 32 p.val) = false := by simpa using hne
    simp [Scalar.select, IntOp.cmpi, hb]

theorem keys_apply (p : Fin 128) (k : Fin 2048) : iota .tc S128x2048 32 [1] iota_S128x2048_d1_w32 (ix2 p k) = BitVec.ofNat 32 k.val :=
  iota_single_apply ..
theorem rows_apply (p : Fin 128) (k : Fin 2048) : iota .tc S128x2048 32 [0] iota_S128x2048_d0_w32 (ix2 p k) = BitVec.ofNat 32 p.val :=
  iota_single_apply ..

/-- A key counts as often as its page. -/
theorem keyCount_apply (b : Fin 16) (k : Fin 2048) : keyCount c I (ix2 b k) = pageCount c I (ix2 b (keyPage k)) := by
  unfold keyCount k0_pay3
  dsimp only
  rw [matmul, Ideal.matmul_constant_zero_apply]
  let D := dot_S16x128_S128x2048_S16x2048_1_0_0_1_n_n
  have e := Equiv.sum_comp (contrEquiv1 D 128 rfl rfl) (fun p : Fin 128 => if keyPage k = p then pageCount c I (ix2 b p) else (0 : EReal))
  refine (Finset.sum_congr (M := EReal) rfl fun q _ => ?_).trans (e.trans ?_)
  · have hl : D.lhsIdx (ix2 b k) q = (ix2 b (contrEquiv1 D 128 rfl rfl q) : S16x128.Idx) :=
      funext fun a => Fin.ext (by match a with | 0 => rfl | 1 => rfl)
    have hr : D.rhsIdx (ix2 b k) q = (ix2 (contrEquiv1 D 128 rfl rfl q) k : S128x2048.Idx) :=
      funext fun a => Fin.ext (by match a with | 0 => rfl | 1 => rfl)
    rw [hl, hr, ← spread_apply]
    simp only [select, cmpi, andi, xori, addi, remsi]
    rw [keys_apply, rows_apply]
    show _ * Scalar.select _ (Ideal.ofBits .f32 0x3F800000#32) (Ideal.ofBits .f32 0x00000000#32) = _
    rw [Ideal.ofBits_one_f32, Ideal.ofBits_zero_f32]
    rfl
  · rw [Finset.sum_ite_eq]; simp

/-- A key is used when it counts. -/
theorem keyUsed_apply (b : Fin 16) (k : Fin 2048) : keyUsed c I (ix2 b k) = BitVec.ofBool (decide (0 < keyCount c I (ix2 b k))) := by
  show Ideal.cmp .ogt (keyCount c I (ix2 b k)) (Ideal.ofBits .f32 0x00000000#32) = _
  rw [Ideal.ofBits_zero_f32]
  simp [Ideal.cmp]

end Cert.PagedAttn

end
-- ==== Proof.Scores.lean ====
/-
  One head on one device, at an index: the masked scores, their maximum, and what the head sends.
-/
module

public import proofs.«01_k».proof.Proof.Counts

@[expose] public section

noncomputable section

namespace Cert.PagedAttn

open Idealize.ShloMosaic Idealize.SL.Sem Cert.KernelIdeal Cert.KernelIdeal.Gen
open Idealize.ShloMosaic.ValueIdx

variable (c : Dev nD) (I : Inputs Ideal) (h : Fin 16)

/-! ## The keys and the values as matrices -/

theorem slices_pos (n : Fin 16) : Shape.Slices S16x64x128 (![n.val, 0, 0] : Fin 3 → ℕ) S1x64x128 := by revert n; decide

/-- The head's keys of one position, for all pages. -/
def keysAt (x : FVec Ideal S16x64x128 .f32) (n : Fin 16) : FVec Ideal S64x128 .f32 :=
  shapeCast S64x128 (extractStridedSlice S1x64x128 ![n.val, 0, 0] x (slices_pos n)) shapeCasts_S1x64x128_S64x128

theorem keysAt_apply (x : FVec Ideal S16x64x128 .f32) (n : Fin 16) (d : Fin 64) (p : Fin 128) : keysAt x n (ix2 d p) = x (ix3 n d p) := by
  unfold keysAt
  rw [shapeCast_apply _ _ (ix2 d p) (ix3 0 d p) (by rw [Shape.rowMajor_val_two, Shape.rowMajor_val_three]; show (0 * 64 + d.val) * 128 + p.val = _; simp)]
  refine extractStridedSlice_apply _ _ _ _ _ fun a => ?_
  match a with
  | 0 => show n.val = n.val + 0; omega
  | 1 => show d.val = 0 + d.val; omega
  | 2 => show p.val = 0 + p.val; omega

theorem cat_ok : Shape.Concatenates ((List.ofFn fun _ : Fin 16 => S64x128)) S64x2048 1 := by decide

/-- All of the head's keys side by side. -/
theorem keysCat_apply (x : FVec Ideal S16x64x128 .f32) (H) (d : Fin 64) (k : Fin 2048) :
    concatenate S64x2048 1 (List.ofFn fun n : Fin 16 => (⟨S64x128, keysAt x n⟩ : (s : Shape) × (s.Idx → EReal))) H (ix2 d k) = x (ix3 (keyPos k) d (keyPage k)) := by
  rw [concatenate_ofFn_apply 1 (keysAt x) H rfl 128 rfl (ix2 d k) (keyPos k) rfl (ix2 d (keyPage k)) rfl (fun b hb => by
    match b with
    | 0 => rfl
    | 1 => exact absurd rfl hb)]
  exact keysAt_apply ..

/-- The product of a query and a key of the device. -/
def keyDot (b : Fin 16) (k : Fin 2048) : EReal := ∑ d : Fin 64, I.q (ix4 b 0 h d) * I.kt (ix4 (keyPos k) h d (keyPage k))

/-- The products of the queries with all keys, as the kernel has them. -/
theorem keyDot_eq (b : Fin 16) (k : Fin 2048) (H) :
    matmul (F := Ideal) (φ₁ := .f32) (φ₂ := .f32) dot_S16x64_S64x2048_S16x2048_1_0_0_1_n_n none (shapeCast S16x64 (qAt I.q h) shapeCasts_S16x1x1x64_S16x64)
      (concatenate (α := EReal) S64x2048 1 (List.ofFn fun n : Fin 16 => (⟨S64x128, keysAt (shapeCast S16x64x128 (pAt I.kt h) shapeCasts_S16x1x64x128_S16x64x128) n⟩ : (s : Shape) × (s.Idx → EReal))) H)
      (constant (F := Ideal) S16x2048 .f32 0x00000000#32) (ix2 b k) = keyDot I h b k := by
  rw [matmul, Ideal.matmul_constant_zero_apply]
  let D := dot_S16x64_S64x2048_S16x2048_1_0_0_1_n_n
  have e := Equiv.sum_comp (contrEquiv1 D 64 rfl rfl) (fun d : Fin 64 => I.q (ix4 b 0 h d) * I.kt (ix4 (keyPos k) h d (keyPage k)))
  refine (Finset.sum_congr (M := EReal) rfl fun q _ => ?_).trans e
  have hl : D.lhsIdx (ix2 b k) q = (ix2 b (contrEquiv1 D 64 rfl rfl q) : S16x64.Idx) :=
    funext fun a => Fin.ext (by match a with | 0 => rfl | 1 => rfl)
  have hr : D.rhsIdx (ix2 b k) q = (ix2 (contrEquiv1 D 64 rfl rfl q) k : S64x2048.Idx) :=
    funext fun a => Fin.ext (by match a with | 0 => rfl | 1 => rfl)
  rw [hl, hr]
  generalize contrEquiv1 D 64 rfl rfl q = d
  rw [keysCat_apply]
  rw [shapeCast_apply _ _ (ix2 b d) (ix4 b 0 0 d) (by rw [Shape.rowMajor_val_two, Shape.rowMajor_val_four]; simp), qAt_apply]
  rw [shapeCast_apply _ _ (ix3 (keyPos k) d (keyPage k)) (ix4 (keyPos k) 0 d (keyPage k)) (by rw [Shape.rowMajor_val_three, Shape.rowMajor_val_four]; simp), pAt_apply]

theorem select_if (p : Prop) [Decidable p] (x y : EReal) : Scalar.select (BitVec.ofBool (decide p)) x y = if p then x else y := by
  by_cases hp : p <;> simp [Scalar.select, hp]

/-- The score of a key. -/
theorem score_apply (b : Fin 16) (k : Fin 2048) :
    score c I h (ix2 b k) = if 0 < keyCount c I (ix2 b k) then keyDot I h b k * Ideal.ofBits .f32 0x3E000000#32 else Ideal.ofBits .f32 0xF149F2CA#32 := by
  unfold score k0_pay24
  rw [select_apply, keyUsed_apply]
  refine (select_if _ _ _).trans ?_
  exact congrArg (fun z : EReal => if 0 < keyCount c I (ix2 b k) then z * Ideal.ofBits .f32 0x3E000000#32 else Ideal.ofBits .f32 0xF149F2CA#32) (keyDot_eq I h b k _)

/-! ## The maximum, the weights, and what is sent -/

/-- The index a row's reduction has at a key. -/
theorem lift_row (b : Fin 16) (k : Fin 2048) : reduces_S16x2048_S16.lift (ix1 b : S16.Idx) k = (ix2 b k : S16x2048.Idx) :=
  funext fun a => Fin.ext (by match a with | 0 => rfl | 1 => rfl)

theorem cast_col (x : FVec Ideal S16 .f32) (b : Fin 16) : shapeCast S16x1 x shapeCasts_S16_S16x1 (ix2 b 0) = x (ix1 b) :=
  shapeCast_apply _ _ (ix2 b 0) (ix1 b) (by rw [Shape.rowMajor_val_one, Shape.rowMajor_val_two]; show b.val = b.val * 1 + 0; omega)
theorem cast_out (x : FVec Ideal S16x1 .f32) (b : Fin 16) : shapeCast S1x16x1 x shapeCasts_S16x1_S1x16x1 (ix3 0 b 0) = x (ix2 b 0) :=
  shapeCast_apply _ _ (ix3 0 b 0) (ix2 b 0) (by rw [Shape.rowMajor_val_three, Shape.rowMajor_val_two]; show b.val * 1 + 0 = (0 * 16 + b.val) * 1 + 0; omega)

/-- The largest score. -/
theorem sendM_apply (b : Fin 16) : sendM c I h (ix3 0 b 0) = Finset.univ.fold max (Ideal.ofBits .f32 0xFF800000#32) (fun k : Fin 2048 => score c I h (ix2 b k)) := by
  unfold sendM k0_pay29 k0_pay25
  rw [cast_out, cast_col]
  refine (Ideal.multiReduction_maximumf_single _ _ _ _ _ _).trans ?_
  exact congrArg (Finset.univ.fold max (Ideal.ofBits .f32 0xFF800000#32)) (funext fun k : Fin 2048 => congrArg (score c I h) (lift_row b k))
/-- The kernel has it at every key. -/
theorem top_apply (b : Fin 16) (k : Fin 2048) : top c I h (ix2 b k) = sendM c I h (ix3 0 b 0) := by
  unfold top k0_pay26 sendM k0_pay29
  rw [cast_out]
  exact broadcastTo_apply _ _ _ _ fun a => by match a with | 0 => rfl | 1 => rfl

/-- The weight of a key. -/
def weight (b : Fin 16) (k : Fin 2048) : EReal :=
  keyCount c I (ix2 b k) * Ideal.exp (score c I h (ix2 b k) - sendM c I h (ix3 0 b 0))
theorem weight_eq (b : Fin 16) (k : Fin 2048) : k0_pay27 (keyCount c I) (score c I h) (top c I h) (ix2 b k) = weight c I h b k := by
  show keyCount c I (ix2 b k) * Ideal.exp (score c I h (ix2 b k) - top c I h (ix2 b k)) = _
  rw [top_apply]; rfl

/-- The sum of the weights. -/
theorem sendS_apply (b : Fin 16) : sendS c I h (ix3 0 b 0) = ∑ k : Fin 2048, weight c I h b k := by
  unfold sendS k0_pay30
  rw [cast_out, cast_col]
  refine (Ideal.multiReduction_add_single _ _ _ _ _ _).trans ?_
  exact Finset.sum_congr (M := EReal) rfl fun (k : Fin 2048) _ => (congrArg _ (lift_row b k)).trans (weight_eq c I h b k)

theorem valsCat_apply (x : FVec Ideal S16x1x64x128 .f32) (k : Fin 2048) (d : Fin 64) :
    shapeCast S2048x64 (transpose S16x128x64 [0, 2, 1] (shapeCast S16x64x128 x shapeCasts_S16x1x64x128_S16x64x128) transposes_S16x64x128_p0_2_1_S16x128x64)
      shapeCasts_S16x128x64_S2048x64 (ix2 k d) = x (ix4 (keyPos k) 0 d (keyPage k)) := by
  rw [shapeCast_apply _ _ (ix2 k d) (ix3 (keyPos k) (keyPage k) d) (by
    rw [Shape.rowMajor_val_two, Shape.rowMajor_val_three]
    show (k.val / 128 * 128 + k.val % 128) * 64 + d.val = k.val * 64 + d.val
    omega)]
  rw [transpose_apply _ _ _ (ix3 (keyPos k) (keyPage k) d) (ix3 (keyPos k) d (keyPage k)) (fun b => by
    match b with | 0 => rfl | 1 => rfl | 2 => rfl)]
  exact shapeCast_apply _ _ _ _ (by rw [Shape.rowMajor_val_three, Shape.rowMajor_val_four]; simp)

/-- The weighted values. -/
theorem sendO_apply (b : Fin 16) (d : Fin 64) :
    sendO c I h (ix3 0 b d) = ∑ k : Fin 2048, weight c I h b k * I.vt (ix4 (keyPos k) h d (keyPage k)) := by
  unfold sendO k0_pay28
  rw [shapeCast_apply _ _ (ix3 0 b d) (ix2 b d) (by rw [Shape.rowMajor_val_three, Shape.rowMajor_val_two]; simp)]
  rw [matmul, Ideal.matmul_constant_zero_apply]
  let D := dot_S16x2048_S2048x64_S16x64_1_0_0_1_n_n
  have e := Equiv.sum_comp (contrEquiv1 D 2048 rfl rfl) (fun k : Fin 2048 => weight c I h b k * I.vt (ix4 (keyPos k) h d (keyPage k)))
  refine (Finset.sum_congr (M := EReal) rfl fun q _ => ?_).trans e
  have hl : D.lhsIdx (ix2 b d) q = (ix2 b (contrEquiv1 D 2048 rfl rfl q) : S16x2048.Idx) :=
    funext fun a => Fin.ext (by match a with | 0 => rfl | 1 => rfl)
  have hr : D.rhsIdx (ix2 b d) q = (ix2 (contrEquiv1 D 2048 rfl rfl q) d : S2048x64.Idx) :=
    funext fun a => Fin.ext (by match a with | 0 => rfl | 1 => rfl)
  rw [hl, hr, weight_eq, valsCat_apply, pAt_apply]

end Cert.PagedAttn

end
-- ==== Proof.Literals.lean ====
/-
  The float literals of the two programs as extended reals, and the maximum of finitely many numbers none of which is +∞.
-/
module

public import Idealize.ShloMosaic.PureOps.Ideal.Laws
public import Idealize.ShloMosaic.Lib.IdealHost

@[expose] public section

noncomputable section

namespace Cert.PagedAttn

open Idealize.ShloMosaic

/-- The word of minus infinity. -/
theorem ofBits_bot : Ideal.ofBits .f32 0xFF800000#32 = ⊥ := by
  simp [Ideal.ofBits, Ideal.ieee]
/-- The word of plus infinity. -/
theorem ofBits_top : Ideal.ofBits .f32 0x7F800000#32 = ⊤ := by
  simp [Ideal.ofBits, Ideal.ieee]
/-- The scale of the scores is a real number. -/
theorem ofBits_scale : ∃ x : ℝ, Ideal.ofBits .f32 0x3E000000#32 = x := by
  refine ⟨1 / 8, ?_⟩
  simp [Ideal.ofBits, Ideal.ieee, -EReal.coe_mul]; norm_num
/-- The kernel's masked score is a real number. -/
theorem ofBits_masked : ∃ x : ℝ, Ideal.ofBits .f32 0xF149F2CA#32 = x := by
  simp [Ideal.ofBits, Ideal.ieee, -EReal.coe_mul]
  exact ⟨_, rfl⟩

/-- The maximum of numbers below +∞, one of them real, is real. -/
theorem fold_max_real {n : ℕ} (f : Fin n → EReal) (ht : ∀ i, f i ≠ ⊤) (hb : ∃ i, f i ≠ ⊥) :
    ∃ μ : ℝ, Finset.univ.fold max ⊥ f = μ := by
  have hs : Finset.univ.fold max ⊥ f = Finset.univ.sup f := rfl
  obtain ⟨i, hi⟩ := hb
  obtain ⟨k, -, hk⟩ := Finset.exists_mem_eq_sup (Finset.univ : Finset (Fin n)) ⟨i, Finset.mem_univ i⟩ f
  have hle : f i ≤ f k := hk ▸ Finset.le_sup (Finset.mem_univ i)
  have hkb : f k ≠ ⊥ := fun h => hi (le_bot_iff.1 (h ▸ hle))
  exact ⟨(f k).toReal, by rw [hs, hk, EReal.coe_toReal (ht k) hkb]⟩

end Cert.PagedAttn

end
-- ==== Proof.Halves.lean ====
/-
  What a device sends for one head, as the half of the average over its own pages.
-/
module

public import proofs.«01_k».proof.Proof.Scores
public import proofs.«01_k».proof.Proof.Average
public import proofs.«01_k».proof.Proof.Literals

@[expose] public section

noncomputable section

namespace Cert.PagedAttn

open Idealize.ShloMosaic Idealize.SL.Sem Cert.KernelIdeal Cert.KernelIdeal.Gen
open Idealize.ShloMosaic.ValueIdx

/-- The half of the pages that a device holds. -/
def side (c : Dev nD) : Fin 2 := ⟨c.val / 2, by have : c.val < 4 := c.isLt; omega⟩

/-- A device's key by its position and its page. -/
def keyOf (t : Fin 16) (p : Fin 128) : Fin 2048 := finProdFinEquiv (t, p)
theorem keyPage_keyOf (t : Fin 16) (p : Fin 128) : keyPage (keyOf t p) = p := Fin.ext (by
  show (p.val + 128 * t.val) % 128 = p.val; omega)
theorem keyPos_keyOf (t : Fin 16) (p : Fin 128) : keyPos (keyOf t p) = t := Fin.ext (by
  show (p.val + 128 * t.val) / 128 = t.val; omega)
theorem sum_keys (f : Fin 2048 → EReal) : ∑ k, f k = ∑ t : Fin 16, ∑ p : Fin 128, f (keyOf t p) :=
  (Equiv.sum_comp (finProdFinEquiv (m := 16) (n := 128)) f).symm.trans (Fintype.sum_prod_type _)

variable (c : Dev nD) (I : Inputs Ideal) (b h : Fin 16) (d : Fin 64)
variable (page : Fin 128 → Fin 256) (s : Fin 256 → Fin 16 → ℝ) (v : Fin 256 → Fin 16 → EReal)

/-- A page's count, as a count of slots. -/
theorem pageCount_real (hp : ∀ j, inUse (I.ln (ix2 b 0)) j → I.bt (ix2 b j) = BitVec.ofNat 32 (page j).val) (p : Fin 128) :
    pageCount c I (ix2 b p) = (cnt (inUse (I.ln (ix2 b 0))) page (side c) p : EReal) := by
  rw [pageCount_apply, cnt, coe_sum]
  refine Finset.sum_congr (M := EReal) rfl fun (j : Fin 128) _ => ?_
  have hiff : (inUse (I.ln (ix2 b 0)) j ∧ I.bt (ix2 b j) = pageWord c p) ↔ (inUse (I.ln (ix2 b 0)) j ∧ page j = pg (side c) p) := by
    refine and_congr_right fun hu => ?_
    rw [hp j hu]
    have hlt : p.val + 128 * (c.val / 2) < 256 := by have : c.val < 4 := c.isLt; omega
    constructor
    · intro e
      have e' := congrArg BitVec.toNat e
      rw [pageWord, BitVec.toNat_ofNat, BitVec.toNat_ofNat, Nat.mod_eq_of_lt (by omega), Nat.mod_eq_of_lt (by omega)] at e'
      exact Fin.ext e'
    · intro e
      rw [e]; rfl
  by_cases hc : inUse (I.ln (ix2 b 0)) j ∧ page j = pg (side c) p
  · rw [if_pos (hiff.2 hc), if_pos hc]; rfl
  · rw [if_neg (fun h' => hc (hiff.1 h')), if_neg hc]; rfl

/-- What a device sends is its half of the average. -/
theorem half (hp : ∀ j, inUse (I.ln (ix2 b 0)) j → I.bt (ix2 b j) = BitVec.ofNat 32 (page j).val)
    (hs : ∀ t p, (∑ e : Fin 64, I.q (ix4 b 0 h e) * I.kt (ix4 t h e p)) * Ideal.ofBits .f32 0x3E000000#32 = (s (pg (side c) p) t : EReal))
    (hv : ∀ t p, I.vt (ix4 t h d p) = v (pg (side c) p) t) :
    Nonempty (Half (inUse (I.ln (ix2 b 0))) page s v (side c) (sendO c I h (ix3 0 b d)) (sendM c I h (ix3 0 b 0)) (sendS c I h (ix3 0 b 0))) := by
  obtain ⟨low, hlow⟩ := ofBits_masked
  let n := cnt (inUse (I.ln (ix2 b 0))) page (side c)
  let σ : Fin 16 → Fin 128 → ℝ := fun t p => if 0 < n p then s (pg (side c) p) t else low
  have hn : ∀ t p, keyCount c I (ix2 b (keyOf t p)) = (n p : EReal) := fun t p => by
    rw [keyCount_apply, keyPage_keyOf]; exact pageCount_real c I b page hp p
  have hσ : ∀ t p, score c I h (ix2 b (keyOf t p)) = (σ t p : EReal) := fun t p => by
    rw [score_apply, hn t p]
    simp only [EReal.coe_pos, σ]
    by_cases h0 : 0 < n p
    · rw [if_pos h0, if_pos h0, keyDot, keyPage_keyOf, keyPos_keyOf, hs]
    · rw [if_neg h0, if_neg h0, hlow]
  have hk : ∀ k, k = keyOf (keyPos k) (keyPage k) := fun k => Fin.ext (by
    show k.val = k.val % 128 + 128 * (k.val / 128); omega)
  have hr : ∀ k, score c I h (ix2 b k) = (σ (keyPos k) (keyPage k) : EReal) := fun k => by
    conv_lhs => rw [hk k]
    exact hσ _ _
  obtain ⟨μ, hμ⟩ := fold_max_real (fun k : Fin 2048 => score c I h (ix2 b k)) (fun k => by rw [hr]; exact EReal.coe_ne_top _) ⟨0, by rw [hr]; exact EReal.coe_ne_bot _⟩
  have hm : sendM c I h (ix3 0 b 0) = μ := by rw [sendM_apply, ofBits_bot]; exact hμ
  have hw : ∀ t p, weight c I h b (keyOf t p) = (n p : EReal) * Ideal.exp ((σ t p : EReal) - (μ : EReal)) := fun t p => by
    rw [weight, hn, hσ, hm]
  exact ⟨{ σ := σ, μ := μ
           scored := fun t p h0 => if_pos h0
           o_eq := by
             rw [sendO_apply, sum_keys]
             refine Finset.sum_congr rfl fun t _ => Finset.sum_congr rfl fun p _ => ?_
             rw [hw, keyPage_keyOf, keyPos_keyOf, hv]
           m_eq := hm
           z_eq := by
             rw [sendS_apply, sum_keys]
             exact Finset.sum_congr rfl fun t _ => Finset.sum_congr rfl fun p _ => hw t p }⟩

end Cert.PagedAttn

end
-- ==== Proof.Arrays.lean ====
/-
  From the arrays of a device to what its kernel reads and leaves: the operands at an index, the pages a device
  holds of the whole cache, and the result array.
-/
module

public import proofs.«01_k».proof.Proof.Launch
public import proofs.«01_k».proof.Proof.Halves
public import Idealize.ShloMosaic.Lib.Pipeline.ValueKit

@[expose] public section

noncomputable section

namespace Cert.PagedAttn

open Idealize.ShloMosaic hiding ix0 ix1 ix2 ix3 ix4 ix5
open Idealize.ShloMosaic.TcCoe Idealize.ShloMosaic.Tactic Idealize.ShloMosaic.ValueIdx
open Idealize.SL.Sem Idealize.ShloMosaic.Pipeline
open Cert.KernelIdeal Cert.KernelIdeal.Gen

variable {F : FTy → Type} [FloatOps F] (m : (ℓ : Loc nD τ sig) → Buf (Elt F) ℓ) (c : Dev nD)

/-- Before the kernel the host transposes the key pages: slot, head, feature, page. -/
theorem V_keys : V m c main_v1 = transpose S16x16x64x128 [1, 2, 3, 0] (m ((c : Thread nD τ).loc main_arg1))
    transposes_S128x16x16x64_S16x16x64x128_1_2_3_0 := by
  show StableHlo.after hostOps0 (fun b => m (c, b)) main_v1 = _
  rw [hostOps0, StableHlo.after_cons, StableHlo.after_cons, StableHlo.after_cons, StableHlo.after_nil,
    StableHlo.reshape_result_ne _ _ _ _ _ _ _ (by decide), StableHlo.unary_result_ne _ _ _ _ _ _ (by decide), StableHlo.unary_result]

/-- The host transposes the value pages the same way. -/
theorem V_values : V m c main_v2 = transpose S16x16x64x128 [1, 2, 3, 0] (m ((c : Thread nD τ).loc main_arg2))
    transposes_S128x16x16x64_S16x16x64x128_1_2_3_0 := by
  show StableHlo.after hostOps0 (fun b => m (c, b)) main_v2 = _
  rw [hostOps0, StableHlo.after_cons, StableHlo.after_cons, StableHlo.after_cons, StableHlo.after_nil,
    StableHlo.reshape_result_ne _ _ _ _ _ _ _ (by decide), StableHlo.unary_result,
    StableHlo.unary_result_ne _ _ _ _ _ _ (by decide)]

/-- The host stands the lengths up as a column. -/
theorem V_lens : V m c main_v3 = shapeCast S16x1 (m ((c : Thread nD τ).loc main_arg4)) shapeCasts_S16_S16x1 := by
  show StableHlo.after hostOps0 (fun b => m (c, b)) main_v3 = _
  rw [hostOps0, StableHlo.after_cons, StableHlo.after_cons, StableHlo.after_cons, StableHlo.after_nil,
    StableHlo.reshape_result, StableHlo.unary_result_ne _ _ _ _ _ _ (by decide), StableHlo.unary_result_ne _ _ _ _ _ _ (by decide)]
  rfl

/-- The staged queries are the query array. -/
theorem inputs_q : (inputs m c).q = m ((c : Thread nD τ).loc main_arg0) := by
  funext i; refine Eq.trans ?_ (congrFun (V_main_arg0 m c) i)
  show iblk m c 0 t0_0 i = _
  have e : win0_0.index t0_0 = fun _ => 0 := by decide +kernel
  blk_ext [iblk] <;> simp [e]

theorem inputs_kt : (inputs m c).kt = V m c main_v1 := by
  funext i
  show iblk m c 1 t0_0 i = _
  have e : win0_1.index t0_0 = fun _ => 0 := by decide +kernel
  blk_ext [iblk] <;> simp [e]

theorem inputs_vt : (inputs m c).vt = V m c main_v2 := by
  funext i
  show iblk m c 2 t0_0 i = _
  have e : win0_2.index t0_0 = fun _ => 0 := by decide +kernel
  blk_ext [iblk] <;> simp [e]

/-- The staged page tables are the page tables. -/
theorem inputs_bt : (inputs m c).bt = m ((c : Thread nD τ).loc main_arg3) := by
  funext i; refine Eq.trans ?_ (congrFun (V_main_arg3 m c) i)
  show iblk m c 3 t0_0 i = _
  have e : win0_3.index t0_0 = fun _ => 0 := by decide +kernel
  blk_ext [iblk] <;> simp [e]

theorem inputs_ln : (inputs m c).ln = V m c main_v3 := by
  funext i
  show iblk m c 4 t0_0 i = _
  have e : win0_4.index t0_0 = fun _ => 0 := by decide +kernel
  blk_ext [iblk] <;> simp [e]

/-- A staged key: page, slot, head and feature of the device's key pages. -/
theorem inputs_kt_apply (t h : Fin 16) (e : Fin 64) (p : Fin 128) :
    (inputs m c).kt (ix4 t h e p) = m ((c : Thread nD τ).loc main_arg1) (ix4 p t h e) := by
  rw [inputs_kt, V_keys]
  exact transpose_apply _ _ _ _ _ fun b => by match b with | 0 => rfl | 1 => rfl | 2 => rfl | 3 => rfl

/-- A staged value, likewise. -/
theorem inputs_vt_apply (t h : Fin 16) (e : Fin 64) (p : Fin 128) :
    (inputs m c).vt (ix4 t h e p) = m ((c : Thread nD τ).loc main_arg2) (ix4 p t h e) := by
  rw [inputs_vt, V_values]
  exact transpose_apply _ _ _ _ _ fun b => by match b with | 0 => rfl | 1 => rfl | 2 => rfl | 3 => rfl

/-- A staged length. -/
theorem inputs_ln_apply (b : Fin 16) : (inputs m c).ln (ix2 b 0) = m ((c : Thread nD τ).loc main_arg4) (ix1 b) := by
  rw [inputs_ln, V_lens]
  exact shapeCast_apply _ _ (ix2 b 0) (ix1 b) (by rw [Shape.rowMajor_val_one, Shape.rowMajor_val_two]; simp)

/-- The result array ends as what the body leaves in its one block. -/
theorem written_eq : written m c = result (inputs m) c := by
  refine (dat₀ m c).arrAt_eq_of_after_last (5 : Fin 6) t0_0 (by decide +kernel) _ fun j => ?_
  rfl

/-- What a device holds of an array of 256 pages cut in two along the first mesh axis: device c's page p is page
    p of its half. -/
theorem block_apply {α : Type} (X : Shape.Idx ⟨4, ![256, 16, 16, 64]⟩ → α) (p : Fin 128) (t h : Fin 16) (e : Fin 64) :
    (Layout.blockN S128x16x16x64 ⟨4, ![256, 16, 16, 64]⟩ (Layout.meshBlock [2, 2] ![[0], [], [], []] c) X : S128x16x16x64.Idx → α)
        (ix4 p t h e)
      = X (ix4 (pg (side c) p) t h e) := by
  rw [Layout.blockN_apply]
  refine congrArg X (funext fun a => Fin.ext ?_)
  rw [Layout.TilesN.idx_val]
  have hc : ((Layout.meshBlock [2, 2] ![[0], [], [], []] c : (b : Fin 4) → Fin (Layout.cutSize [2, 2] ((![[0], [], [], []] : Fin 4 → List ℕ) b))) 0).val = (side c).val := by
    revert c; decide
  match a with
  | 0 =>
    show ((Layout.meshBlock [2, 2] ![[0], [], [], []] c : (b : Fin 4) → Fin (Layout.cutSize [2, 2] ((![[0], [], [], []] : Fin 4 → List ℕ) b))) 0).val * 128 + p.val = p.val + 128 * (side c).val
    rw [hc]; omega
  | 1 => show 0 * 16 + t.val = t.val; omega
  | 2 => show 0 * 16 + h.val = h.val; omega
  | 3 => show 0 * 64 + e.val = e.val; omega

end Cert.PagedAttn
-- ==== Proof.Reference.lean ====
/-
  The reference's result at an index: the softmax average of the values over the slots' pages.
-/
module

public import proofs.«01_k».proof.Proof.Average
public import proofs.«01_k».proof.Proof.Literals
public import proofs.«01_k».proof.Proof.Gen.ReferenceIdeal.Run
public import Idealize.ShloMosaic.Lib.Pipeline.Value
public import Idealize.ShloMosaic.Lib.ValueIdxCore
public import Idealize.ShloMosaic.Lib.IdealHost

@[expose] public section

noncomputable section

namespace Cert.PagedAttn.Ref

open Idealize.ShloMosaic Idealize.SL.Sem Cert.ReferenceIdeal Cert.ReferenceIdeal.Gen
open Idealize.ShloMosaic.ValueIdx

/-! ## The reference's arrays -/

/-- The page numbers, the negative ones counted from the end. -/
def pageIx (bt : IVec S16x128 32) : IVec S16x128x1 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 256#32))) bt)
/-- The slots' pages, one after another. -/
def paged (K : FVec Ideal S256x16x16x64 .f32) (bt : IVec S16x128 32) : FVec Ideal S16x2048x16x64 .f32 :=
  shapeCast _ (Host.gather gather_S256x16x16x64_S16x128x1_S16x128x16x16x64_234_0_n_n_0_2_1161664 K (pageIx bt)) shapeCasts_S16x128x16x16x64_S16x2048x16x64
/-- Which keys lie before the length. -/
def maskOf (ln : IVec S16 32) : IVec S16x16x1x2048 1 :=
  broadcastInDim S16x16x1x2048 ![0, 1, 2, 3] bcast_S16x1x1x2048_S16x16x1x2048_0_1_2_3 (broadcastInDim S16x1x1x2048 ![0, 3] bcast_S16x2048_S16x1x1x2048_0_3
    (shapeCast _ (broadcastInDim S16x128x16 ![0, 1] bcast_S16x128_S16x128x16_0_1 (cmpi .slt
      (broadcastInDim S16x128 ![0, 1] bcast_S1x128_S16x128_0_1 (broadcastInDim S1x128 ![1] bcast_S128_S1x128_1 (iotaInDim S128 32 0)))
      (broadcastInDim S16x128 ![0, 1] bcast_S16x1_S16x128_0_1 (broadcastInDim S16x1 ![0] bcast_S16_S16x1_0 ln)))) shapeCasts_S16x128x16_S16x2048))
/-- The masked scores. -/
def scores (q : FVec Ideal S16x1x16x64 .f32) (K : FVec Ideal S256x16x16x64 .f32) (bt : IVec S16x128 32) (ln : IVec S16 32) : FVec Ideal S16x16x1x2048 .f32 :=
  select (maskOf ln) (mulf (Host.dotGeneral dot_S16x1x16x64_S16x2048x16x64_S16x16x1x2048_3_3_1_1_02_02 none q (paged K bt))
    (broadcastInDim S16x16x1x2048 ![] bcast_S_S16x16x1x2048 (constant S_ .f32 0x3E000000#32)))
    (broadcastInDim S16x16x1x2048 ![] bcast_S_S16x16x1x2048 (id (constant S_ .f32 0xFF800000#32)))
/-- A row's number at every key. -/
def spread (x : FVec Ideal S16x16x1 .f32) : FVec Ideal S16x16x1x2048 .f32 :=
  broadcastInDim S16x16x1x2048 ![0, 1, 2, 3] bcast_S16x16x1x1_S16x16x1x2048_0_1_2_3 (broadcastInDim S16x16x1x1 ![0, 1, 2] bcast_S16x16x1_S16x16x1x1_0_1_2 x)
def rowMax (x : FVec Ideal S16x16x1x2048 .f32) : FVec Ideal S16x16x1 .f32 :=
  Host.reduce FloatOps.maximumf x (constant (F := Ideal) S_ .f32 0xFF800000#32) reducesTo_S16x16x1x2048_S16x16x1_d3 h_S_
def rowSum (x : FVec Ideal S16x16x1x2048 .f32) : FVec Ideal S16x16x1 .f32 :=
  Host.reduceAdd x (constant (F := Ideal) S_ .f32 0x00000000#32) reducesTo_S16x16x1x2048_S16x16x1_d3 h_S_
/-- The weights, from the scores. -/
def weights (x : FVec Ideal S16x16x1x2048 .f32) : FVec Ideal S16x16x1x2048 .f32 := Host.exp (subf x (spread (rowMax x)))
/-- The result, from the weights. -/
def averaged (V : FVec Ideal S256x16x16x64 .f32) (bt : IVec S16x128 32) (e : FVec Ideal S16x16x1x2048 .f32) : FVec Ideal S16x1x16x64 .f32 :=
  transpose S16x1x16x64 [0, 3, 1, 2] (Host.dotGeneral dot_S16x2048x16x64_S16x16x1x2048_S16x16x64x1_1_3_3_2_02_01 none (paged V bt) (Host.divf e (spread (rowSum e))))
    transposes_S16x16x64x1_S16x1x16x64_0_3_1_2

theorem result_eq (m : (ℓ : Loc nD τ sig) → Buf (Elt Ideal) ℓ) (c : Dev nD) :
    Cert.ReferenceIdeal.Value.res_main_v39 m c = averaged (m ((c.tc : Thread nD τ).loc main_arg2)) (m ((c.tc : Thread nD τ).loc main_arg3))
      (weights (scores (m ((c.tc : Thread nD τ).loc main_arg0)) (m ((c.tc : Thread nD τ).loc main_arg1)) (m ((c.tc : Thread nD τ).loc main_arg3)) (m ((c.tc : Thread nD τ).loc main_arg4)))) := by
  unfold Cert.ReferenceIdeal.Value.res_main_v39
  rfl

/-! ## At an index -/

/-- Slot j's key t. -/
def keyAt (j : Fin 128) (t : Fin 16) : Fin 2048 := finProdFinEquiv (j, t)
theorem sum_keyAt (f : Fin 2048 → EReal) : ∑ k, f k = ∑ j : Fin 128, ∑ t : Fin 16, f (keyAt j t) :=
  (Equiv.sum_comp (finProdFinEquiv (m := 128) (n := 16)) f).symm.trans (Fintype.sum_prod_type _)

/-- The page that a table's word stands for in the reference. -/
def wrapped (w : BitVec 32) : BitVec 32 := Scalar.select (IntOp.cmpi .slt w 0#32) (IntOp.addi w 256#32) w
def pageOf (w : BitVec 32) : Fin 256 := ⟨min (wrapped w).toInt.toNat 255, by omega⟩
theorem pageIx_apply (bt : IVec S16x128 32) (b : Fin 16) (j : Fin 128) : pageIx bt (ix3 b j 0) = wrapped (bt (ix2 b j)) := by
  unfold pageIx
  rw [broadcastInDim_apply _ _ _ (ix3 b j 0) (ix2 b j) (fun a => by match a with | 0 => rfl | 1 => rfl)]
  rfl
/-- For the words the precondition allows it is the word. -/
theorem pageOf_eq (w : BitVec 32) (h0 : (0#32).sle w = true) (h1 : w.slt 256#32 = true) : w = BitVec.ofNat 32 (pageOf w).val := by
  have h0' : 0 ≤ w.toInt := by simpa [BitVec.sle] using h0
  have h1' : w.toInt < 256 := by simpa [BitVec.slt] using h1
  have hs : IntOp.cmpi .slt w 0#32 = 0#1 := by
    have : w.slt 0#32 = false := by simp [BitVec.slt]; omega
    simp only [IntOp.cmpi, this]; rfl
  have hw : (pageOf w).val = w.toInt.toNat := by
    show min (wrapped w).toInt.toNat 255 = _
    unfold wrapped
    rw [hs]
    show min w.toInt.toNat 255 = _
    omega
  rw [hw]
  apply BitVec.eq_of_toNat_eq
  have hc := BitVec.toInt_eq_toNat_cond w
  have hl := w.isLt
  rw [BitVec.toNat_ofNat]
  split at hc <;> omega

theorem gather_apply (K : FVec Ideal S256x16x16x64 .f32) (bt : IVec S16x128 32) (b : Fin 16) (j : Fin 128) (t h : Fin 16) (d : Fin 64) :
    Host.gather gather_S256x16x16x64_S16x128x1_S16x128x16x16x64_234_0_n_n_0_2_1161664 K (pageIx bt) (ix5 b j t h d) = K (ix4 (pageOf (bt (ix2 b j))) t h d) := by
  let D := gather_S256x16x16x64_S16x128x1_S16x128x16x16x64_234_0_n_n_0_2_1161664
  unfold Host.gather
  refine congrArg K (funext fun a => Fin.ext ?_)
  match a with
  | 0 =>
    show D.start (ix5 b j t h d) (pageIx bt) 0 + D.batchCoord (ix5 b j t h d) 0 + D.offCoord (ix5 b j t h d) 0 = _
    rw [D.batchCoord_eq_zero _ _ List.not_mem_nil, D.offCoord_eq_zero _ _ (fun h => ((D.mem_sKept 0).1 h).1 (List.mem_singleton.2 rfl))]
    simp only [Nat.add_zero]
    unfold GatherDims.start
    rw [dif_pos (show (0 : Fin 4) ∈ D.startIndexMap from List.mem_singleton.2 rfl)]
    have hsi : D.siIdx (ix5 b j t h d) ⟨D.startIndexMap.idxOf 0, List.idxOf_lt_length_iff.2 (List.mem_singleton.2 rfl)⟩ = ix3 b j 0 := by
      funext b'; refine Fin.ext ?_
      match b' with
      | 0 => rfl
      | 1 => rfl
      | 2 => rfl
    rw [hsi, pageIx_apply]
    rfl
  | 1 => show 0 + 0 + t.val = t.val; omega
  | 2 => show 0 + 0 + h.val = h.val; omega
  | 3 => show 0 + 0 + d.val = d.val; omega

theorem paged_apply (K : FVec Ideal S256x16x16x64 .f32) (bt : IVec S16x128 32) (b : Fin 16) (j : Fin 128) (t h : Fin 16) (d : Fin 64) :
    paged K bt (ix4 b (keyAt j t) h d) = K (ix4 (pageOf (bt (ix2 b j))) t h d) := by
  unfold paged
  rw [shapeCast_apply _ _ (ix4 b (keyAt j t) h d) (ix5 b j t h d) (by
    rw [Shape.rowMajor_val_five, Shape.rowMajor_val_four]
    show (((b.val * 128 + j.val) * 16 + t.val) * 16 + h.val) * 64 + d.val = ((b.val * 2048 + (t.val + 16 * j.val)) * 16 + h.val) * 64 + d.val
    omega)]
  exact gather_apply ..

theorem maskOf_apply (ln : IVec S16 32) (b h : Fin 16) (j : Fin 128) (t : Fin 16) :
    maskOf ln (ix4 b h 0 (keyAt j t)) = BitVec.ofBool (decide (inUse (ln (ix1 b)) j)) := by
  unfold maskOf
  rw [broadcastInDim_apply _ _ _ (ix4 b h 0 (keyAt j t)) (ix4 b 0 0 (keyAt j t)) (fun a => by match a with | 0 => rfl | 1 => rfl | 2 => rfl | 3 => rfl),
    broadcastInDim_apply _ _ _ (ix4 b 0 0 (keyAt j t)) (ix2 b (keyAt j t)) (fun a => by match a with | 0 => rfl | 1 => rfl),
    shapeCast_apply _ _ (ix2 b (keyAt j t)) (ix3 b j t) (by
      rw [Shape.rowMajor_val_three, Shape.rowMajor_val_two]
      show (b.val * 128 + j.val) * 16 + t.val = b.val * 2048 + (t.val + 16 * j.val)
      omega),
    broadcastInDim_apply _ _ _ (ix3 b j t) (ix2 b j) (fun a => by match a with | 0 => rfl | 1 => rfl)]
  show IntOp.cmpi .slt _ _ = _
  rw [broadcastInDim_apply _ _ _ (ix2 b j) (ix2 0 j) (fun a => by match a with | 0 => rfl | 1 => rfl),
    broadcastInDim_apply _ _ _ (ix2 0 j) (ix1 j) (fun a => by match a with | 0 => rfl),
    broadcastInDim_apply _ _ _ (ix2 b j) (ix2 b 0) (fun a => by match a with | 0 => rfl | 1 => rfl),
    broadcastInDim_apply _ _ _ (ix2 b 0) (ix1 b) (fun a => by match a with | 0 => rfl)]
  show BitVec.ofBool ((BitVec.ofNat 32 j.val).slt (ln (ix1 b))) = _
  exact congrArg BitVec.ofBool Bool.decide_eq_true.symm

variable (q : FVec Ideal S16x1x16x64 .f32) (K V : FVec Ideal S256x16x16x64 .f32) (bt : IVec S16x128 32) (ln : IVec S16 32)

theorem dotK_apply (b h : Fin 16) (k : Fin 2048) (X : FVec Ideal S16x2048x16x64 .f32) :
    Host.dotGeneral dot_S16x1x16x64_S16x2048x16x64_S16x16x1x2048_3_3_1_1_02_02 none q X (ix4 b h 0 k) = ∑ e : Fin 64, q (ix4 b 0 h e) * X (ix4 b k h e) := by
  simp only [Host.dotGeneral]
  rw [Ideal.dotGeneral_apply]
  let D := dot_S16x1x16x64_S16x2048x16x64_S16x16x1x2048_3_3_1_1_02_02
  have e := Equiv.sum_comp (contrEquiv1 D 64 rfl rfl) (fun e : Fin 64 => q (ix4 b 0 h e) * X (ix4 b k h e))
  refine (Finset.sum_congr (M := EReal) rfl fun r _ => ?_).trans e
  have hl : D.lhsIdx (ix4 b h 0 k) r = (ix4 b 0 h (contrEquiv1 D 64 rfl rfl r) : S16x1x16x64.Idx) :=
    funext fun a => Fin.ext (by match a with | 0 => rfl | 1 => rfl | 2 => rfl | 3 => rfl)
  have hr : D.rhsIdx (ix4 b h 0 k) r = (ix4 b k h (contrEquiv1 D 64 rfl rfl r) : S16x2048x16x64.Idx) :=
    funext fun a => Fin.ext (by match a with | 0 => rfl | 1 => rfl | 2 => rfl | 3 => rfl)
  rw [hl, hr]

theorem dotV_apply (b h : Fin 16) (d : Fin 64) (X : FVec Ideal S16x2048x16x64 .f32) (w : FVec Ideal S16x16x1x2048 .f32) :
    Host.dotGeneral dot_S16x2048x16x64_S16x16x1x2048_S16x16x64x1_1_3_3_2_02_01 none X w (ix4 b h d 0) = ∑ k : Fin 2048, X (ix4 b k h d) * w (ix4 b h 0 k) := by
  simp only [Host.dotGeneral]
  rw [Ideal.dotGeneral_apply]
  let D := dot_S16x2048x16x64_S16x16x1x2048_S16x16x64x1_1_3_3_2_02_01
  have e := Equiv.sum_comp (contrEquiv1 D 2048 rfl rfl) (fun k : Fin 2048 => X (ix4 b k h d) * w (ix4 b h 0 k))
  refine (Finset.sum_congr (M := EReal) rfl fun r _ => ?_).trans e
  have hl : D.lhsIdx (ix4 b h d 0) r = (ix4 b (contrEquiv1 D 2048 rfl rfl r) h d : S16x2048x16x64.Idx) :=
    funext fun a => Fin.ext (by match a with | 0 => rfl | 1 => rfl | 2 => rfl | 3 => rfl)
  have hr : D.rhsIdx (ix4 b h d 0) r = (ix4 b h 0 (contrEquiv1 D 2048 rfl rfl r) : S16x16x1x2048.Idx) :=
    funext fun a => Fin.ext (by match a with | 0 => rfl | 1 => rfl | 2 => rfl | 3 => rfl)
  rw [hl, hr]

/-- A score. -/
theorem scores_apply (b h : Fin 16) (j : Fin 128) (t : Fin 16) :
    scores q K bt ln (ix4 b h 0 (keyAt j t))
      = if inUse (ln (ix1 b)) j then (∑ e : Fin 64, q (ix4 b 0 h e) * K (ix4 (pageOf (bt (ix2 b j))) t h e)) * Ideal.ofBits .f32 0x3E000000#32 else ⊥ := by
  unfold scores
  rw [select_apply, maskOf_apply]
  show Scalar.select _ (_ * broadcastInDim _ _ _ _ _) (broadcastInDim _ _ _ _ _) = _
  rw [broadcastInDim_scalar_apply, broadcastInDim_scalar_apply, dotK_apply]
  simp only [paged_apply]
  show Scalar.select _ (_ * Ideal.ofBits .f32 0x3E000000#32) (Ideal.ofBits .f32 0xFF800000#32) = _
  rw [ofBits_bot]
  by_cases hu : inUse (ln (ix1 b)) j <;> simp [Scalar.select, hu]

theorem spread_apply (x : FVec Ideal S16x16x1 .f32) (b h : Fin 16) (k : Fin 2048) : spread x (ix4 b h 0 k) = x (ix3 b h 0) := by
  unfold spread
  rw [broadcastInDim_apply _ _ _ (ix4 b h 0 k) (ix4 b h 0 0) (fun a => by match a with | 0 => rfl | 1 => rfl | 2 => rfl | 3 => rfl),
    broadcastInDim_apply _ _ _ (ix4 b h 0 0) (ix3 b h 0) (fun a => by match a with | 0 => rfl | 1 => rfl | 2 => rfl)]

theorem reduces_row : S16x16x1x2048.Reduces [3] S16x16x1 := by decide
theorem lift_row (b h : Fin 16) (k : Fin 2048) : reduces_row.lift (ix3 b h 0 : S16x16x1.Idx) k = (ix4 b h 0 k : S16x16x1x2048.Idx) :=
  funext fun a => Fin.ext (by match a with | 0 => rfl | 1 => rfl | 2 => rfl | 3 => rfl)

theorem rowMax_apply (x : FVec Ideal S16x16x1x2048 .f32) (b h : Fin 16) :
    rowMax x (ix3 b h 0) = Finset.univ.fold max ⊥ (fun k : Fin 2048 => x (ix4 b h 0 k)) := by
  unfold rowMax
  refine (Host.reduce_eq_fold_single (α := EReal) max x _ _ reduces_row _ _).trans ?_
  show Finset.univ.fold max (Ideal.ofBits .f32 0xFF800000#32) _ = _
  rw [ofBits_bot]
  exact congrArg (Finset.univ.fold max ⊥) (funext fun k : Fin 2048 => congrArg x (lift_row b h k))
theorem rowSum_apply (x : FVec Ideal S16x16x1x2048 .f32) (b h : Fin 16) : rowSum x (ix3 b h 0) = ∑ k : Fin 2048, x (ix4 b h 0 k) := by
  unfold rowSum
  rw [hostReduceAdd_apply, Ideal.hostReduceAdd_single _ reduces_row]
  show Ideal.ofBits .f32 0x00000000#32 + _ = _
  rw [Ideal.ofBits_zero_f32, zero_add]
  exact Finset.sum_congr (M := EReal) rfl fun (k : Fin 2048) _ => congrArg x (lift_row b h k)

/-- The reference's result is the average. -/
theorem averaged_eq_mix (b h : Fin 16) (d : Fin 64) (s : Fin 256 → Fin 16 → ℝ) (hu : ∃ j, inUse (ln (ix1 b)) j)
    (hs : ∀ g t, (∑ e : Fin 64, q (ix4 b 0 h e) * K (ix4 g t h e)) * Ideal.ofBits .f32 0x3E000000#32 = (s g t : EReal)) :
    averaged V bt (weights (scores q K bt ln)) (ix4 b 0 h d)
      = mix (inUse (ln (ix1 b))) (fun j => pageOf (bt (ix2 b j))) s (fun g t => V (ix4 g t h d)) := by
  have hsc : ∀ j t, scores q K bt ln (ix4 b h 0 (keyAt j t)) = if inUse (ln (ix1 b)) j then (s (pageOf (bt (ix2 b j))) t : EReal) else ⊥ := fun j t => by
    rw [scores_apply, hs]
  have hk : ∀ k : Fin 2048, k = keyAt ⟨k.val / 16, by omega⟩ ⟨k.val % 16, by omega⟩ := fun k => Fin.ext (by
    show k.val = k.val % 16 + 16 * (k.val / 16); omega)
  obtain ⟨μ, hμ⟩ := fold_max_real (fun k : Fin 2048 => scores q K bt ln (ix4 b h 0 k))
    (fun k => by
      rw [hk k, hsc]; split
      · exact EReal.coe_ne_top _
      · exact bot_ne_top)
    (by
      obtain ⟨j, hj⟩ := hu
      exact ⟨keyAt j 0, by rw [hsc, if_pos hj]; exact EReal.coe_ne_bot _⟩)
  have hw : ∀ j t, weights (scores q K bt ln) (ix4 b h 0 (keyAt j t)) = (wt (inUse (ln (ix1 b))) (fun j => pageOf (bt (ix2 b j))) s μ j t : EReal) := fun j t => by
    show Ideal.exp (scores q K bt ln (ix4 b h 0 (keyAt j t)) - spread (rowMax (scores q K bt ln)) (ix4 b h 0 (keyAt j t))) = _
    rw [spread_apply, rowMax_apply, hμ, hsc]
    exact exp_masked (inUse (ln (ix1 b))) (fun j => pageOf (bt (ix2 b j))) s μ j t
  have hz : rowSum (weights (scores q K bt ln)) (ix3 b h 0) = (wts (inUse (ln (ix1 b))) (fun j => pageOf (bt (ix2 b j))) s μ : EReal) := by
    rw [rowSum_apply, sum_keyAt, wts, coe_sum]
    refine Finset.sum_congr rfl fun j _ => ?_
    rw [coe_sum]
    exact Finset.sum_congr rfl fun t _ => hw j t
  unfold averaged
  rw [transpose_apply _ _ _ (ix4 b 0 h d) (ix4 b h d 0) (fun a => by match a with | 0 => rfl | 1 => rfl | 2 => rfl | 3 => rfl), dotV_apply, sum_keyAt]
  rw [← sum_div_eq_mix _ _ _ hu μ]
  refine Finset.sum_congr rfl fun j _ => Finset.sum_congr rfl fun t _ => ?_
  rw [paged_apply, hostDivf_apply, spread_apply, hw, hz]

end Cert.PagedAttn.Ref

end
-- ==== Proof.Given.lean ====
/-
  What the precondition says of a device's blocks: every length is positive, the page numbers in use lie between 0 and
  255, and the queries and the keys are real numbers.
-/
module

public import proofs.«01_k».proof.Pre_pages_given_KernelIdeal
public import proofs.«01_k».proof.Pre_pages_given_ReferenceIdeal
public import proofs.«01_k».proof.Proof.Average
public import proofs.«01_k».proof.Proof.Literals
public import Idealize.ShloMosaic.Lib.Pipeline.Value
public import Idealize.ShloMosaic.Lib.ValueIdxCore
public import Idealize.ShloMosaic.Lib.IdealHost
public import Idealize.ShloMosaic.Lib.ReduceAll

@[expose] public section

noncomputable section

namespace Cert.PagedAttn

open Idealize.ShloMosaic Idealize.ShloMosaic.ValueIdx

/-- The side conditions of the precondition, read over a device's blocks and over the whole arrays. -/
instance givenFacts : Cert.Pre_pages_given_KernelIdeal.Facts := by
  constructor <;> decide
instance givenFactsRef : Cert.Pre_pages_given_ReferenceIdeal.Facts := by
  constructor <;> decide

open Cert.Pre_pages_given_KernelIdeal Cert.Pre_pages_given_KernelIdeal.Facts

theorem and_one : ∀ {a b : BitVec 1}, IntOp.andi a b = 1#1 → a = 1#1 ∧ b = 1#1 := by decide
theorem or_one : ∀ {a b : BitVec 1}, IntOp.ori a b = 1#1 → a = 1#1 ∨ b = 1#1 := by decide
theorem ofBool_one : ∀ {a : Bool}, BitVec.ofBool a = 1#1 → a = true := by decide

/-- A number whose absolute value is below +∞ is real. -/
theorem real_of_abs (x : EReal) (h : Ideal.cmp .olt (max x (-x)) ⊤ = 1#1) : ∃ r : ℝ, x = r := by
  have h' : max x (-x) < ⊤ := of_decide_eq_true (ofBool_one h)
  have ht : x ≠ ⊤ := fun e => by rw [e] at h'; simp at h'
  have hb : x ≠ ⊥ := fun e => by rw [e] at h'; simp at h'
  exact ⟨x.toReal, (EReal.coe_toReal ht hb).symm⟩

instance : Subsingleton S_.Idx := ⟨fun a b => funext fun i => i.elim0⟩

/-- What the precondition gives. -/
theorem given (q : FVec Ideal S16x1x16x64 .f32) (k v : FVec Ideal S128x16x16x64 .f32) (bt : IVec S16x128 32) (ln : IVec S16 32)
    (h : fn q k v bt ln = fun _ => 1#1) :
    (∀ b, (0#32).slt (ln (ix1 b)) = true)
      ∧ (∀ b j, inUse (ln (ix1 b)) j → (0#32).sle (bt (ix2 b j)) = true ∧ (bt (ix2 b j)).slt 256#32 = true)
      ∧ (∀ i, ∃ r : ℝ, q i = r) ∧ (∀ i, ∃ r : ℝ, k i = r) := by
  have h0 := congrFun h ix0
  dsimp only [fn, fn_part1] at h0
  obtain ⟨hAB, hCD⟩ := and_one h0
  obtain ⟨hA, hB⟩ := and_one hAB
  obtain ⟨hC, hD⟩ := and_one hCD
  refine ⟨fun b => ?_, fun b j hu => ?_, fun i => ?_, fun i => ?_⟩
  · have e := Host.reduce_andi_all _ _ _ _ _ hA (ix1 b)
    exact ofBool_one e
  · have e := Host.reduce_andi_all _ _ _ _ _ hB (ix2 b j)
    rcases or_one e with e | e
    · exfalso
      have e' : IntOp.cmpi .sge (BitVec.ofNat 32 j.val) (broadcastInDim S16x128 ![0, 1] bcast_S16x1_S16x128_0_1 (broadcastInDim S16x1 ![0] bcast_S16_S16x1_0 ln) (ix2 b j)) = 1#1 := e
      rw [broadcastInDim_apply _ _ _ (ix2 b j) (ix2 b 0) (fun a => by match a with | 0 => rfl | 1 => rfl),
        broadcastInDim_apply _ _ _ (ix2 b 0) (ix1 b) (fun a => by match a with | 0 => rfl)] at e'
      have e2 : (ln (ix1 b)).sle (BitVec.ofNat 32 j.val) = true := ofBool_one e'
      have e3 : (BitVec.ofNat 32 j.val).slt (ln (ix1 b)) = true := hu
      simp only [BitVec.sle, BitVec.slt, decide_eq_true_eq] at e2 e3
      omega
    · obtain ⟨e1, e2⟩ := and_one e
      exact ⟨ofBool_one e1, ofBool_one e2⟩
  · have e := Host.reduce_andi_all _ _ _ _ _ hC i
    refine real_of_abs (q i) ?_
    rw [← ofBits_top]; exact e
  · have e := Host.reduce_andi_all _ _ _ _ _ hD i
    refine real_of_abs (k i) ?_
    rw [← ofBits_top]; exact e

end Cert.PagedAttn

end
-- ==== Proof.Value.lean ====
/-
  The kernel's result is the reference's: on every device the two exchanged halves, put together, are the average
  the reference takes over the whole page cache.
-/
module

public import proofs.«01_k».proof.Proof.Arrays
public import proofs.«01_k».proof.Proof.Reference
public import proofs.«01_k».proof.Proof.Given

@[expose] public section

noncomputable section

namespace Cert.PagedAttn

open Idealize.ShloMosaic hiding ix0 ix1 ix2 ix3 ix4 ix5
open Idealize.ShloMosaic.TcCoe Idealize.ShloMosaic.ValueIdx
open Idealize.SL.Sem
open Cert.KernelIdeal Cert.KernelIdeal.Gen

/-- What holds at every index given by its coordinates holds at every index. -/
theorem forall_ix4 {n₀ n₁ n₂ n₃ : ℕ} {P : Shape.Idx ⟨4, ![n₀, n₁, n₂, n₃]⟩ → Prop} (h : ∀ a b c d, P (ix4 a b c d)) (i) : P i :=
  (ValueIdx.eq_ix4 i).symm ▸ h (i 0) (i 1) (i 2) (i 3)

/-- The merge of one element, at exact numbers, is the joining of two halves. -/
theorem merge1_eq_join (o₁ m₁ z₁ o₂ m₂ z₂ : EReal) : merge1 (F := Ideal) o₁ m₁ z₁ o₂ m₂ z₂ = join o₁ m₁ z₁ o₂ m₂ z₂ := rfl

/-- One element of the merged result, from what each device sent. -/
theorem merged_apply (c c' : Dev nD) (I I' : Inputs Ideal) (b h : Fin 16) (d : Fin 64) :
    merged (sent c I) (sent c' I') (ix4 b 0 h d)
      = join (sendO c I h (ix3 0 b d)) (sendM c I h (ix3 0 b 0)) (sendS c I h (ix3 0 b 0))
          (sendO c' I' h (ix3 0 b d)) (sendM c' I' h (ix3 0 b 0)) (sendS c' I' h (ix3 0 b 0)) := by
  have lo : ∀ (a : Dev nD) (J : Inputs Ideal), sent a J (ix3 h b ⟨d.val, by omega⟩) = sendO a J h (ix3 0 b d) := fun a J =>
    dif_pos (show d.val < 64 from d.isLt)
  have h64 : ∀ (a : Dev nD) (J : Inputs Ideal), sent a J (ix3 h b 64) = sendM a J h (ix3 0 b 0) := fun a J =>
    (dif_neg (show ¬ (64 : ℕ) < 64 by decide)).trans (if_pos rfl)
  have h65 : ∀ (a : Dev nD) (J : Inputs Ideal), sent a J (ix3 h b 65) = sendS a J h (ix3 0 b 0) := fun a J =>
    (dif_neg (show ¬ (65 : ℕ) < 64 by decide)).trans (if_neg (show ¬ (65 : ℕ) = 64 by decide))
  refine (mergeAt_apply (sent c I) (sent c' I') h b d).trans ?_
  rw [lo, lo, h64, h64, h65, h65]
  exact merge1_eq_join _ _ _ _ _ _

/-- A score over finite queries and keys is a real number. -/
theorem score_real {n : ℕ} (f g : Fin n → EReal) (hf : ∀ e, ∃ r : ℝ, f e = r) (hg : ∀ e, ∃ r : ℝ, g e = r) :
    ∃ r : ℝ, (∑ e, f e * g e) * Ideal.ofBits .f32 0x3E000000#32 = (r : EReal) := by
  choose x hx using hf
  choose y hy using hg
  obtain ⟨a, ha⟩ := ofBits_scale
  refine ⟨(∑ e, x e * y e) * a, ?_⟩
  rw [ha, EReal.coe_mul, coe_sum]
  refine congrArg (· * (a : EReal)) (Finset.sum_congr (M := EReal) rfl fun e _ => ?_)
  rw [hx, hy, EReal.coe_mul]

section
variable (ins : Dev nD → Inputs Ideal) (q : FVec Ideal S16x1x16x64 .f32) (K V : FVec Ideal ⟨4, ![256, 16, 16, 64]⟩ .f32)
  (bt : IVec S16x128 32) (ln : IVec S16 32)

/-- On every device the merged halves are the reference's average, where each sequence has a token, the page numbers
    in use are in range and the queries and keys are finite. -/
theorem result_eq_averaged (hq : ∀ c, (ins c).q = q)
    (hk : ∀ c (t h : Fin 16) (e : Fin 64) (p : Fin 128), (ins c).kt (ix4 t h e p) = K (ix4 (pg (side c) p) t h e))
    (hv : ∀ c (t h : Fin 16) (e : Fin 64) (p : Fin 128), (ins c).vt (ix4 t h e p) = V (ix4 (pg (side c) p) t h e))
    (hbt : ∀ c, (ins c).bt = bt) (hln : ∀ c (b : Fin 16), (ins c).ln (ix2 b 0) = ln (ix1 b))
    (hpos : ∀ b, (0#32).slt (ln (ix1 b)) = true)
    (hin : ∀ b j, inUse (ln (ix1 b)) j → (0#32).sle (bt (ix2 b j)) = true ∧ (bt (ix2 b j)).slt 256#32 = true)
    (fq : ∀ i, ∃ r : ℝ, q i = r) (fk : ∀ i, ∃ r : ℝ, K i = r) (c : Dev nD) :
    result ins c = Ref.averaged V bt (Ref.weights (Ref.scores q K bt ln)) := by
  refine funext (forall_ix4 fun b z h d => ?_)
  obtain rfl : z = 0 := Subsingleton.elim _ _
  have hr : ∀ (g : Fin 256) (t : Fin 16), ∃ r : ℝ,
      (∑ e : Fin 64, q (ix4 b 0 h e) * K (ix4 g t h e)) * Ideal.ofBits .f32 0x3E000000#32 = (r : EReal) := fun g t =>
    score_real _ _ (fun e => fq _) (fun e => fk _)
  choose s hs using hr
  have hu : ∃ j, inUse (ln (ix1 b)) j := ⟨0, hpos b⟩
  rw [Ref.averaged_eq_mix q K V bt ln b h d s hu hs]
  have H : ∀ a : Dev nD, Nonempty (Half (inUse (ln (ix1 b))) (fun j => Ref.pageOf (bt (ix2 b j))) s (fun g t => V (ix4 g t h d))
      (side a) (sendO a (ins a) h (ix3 0 b d)) (sendM a (ins a) h (ix3 0 b 0)) (sendS a (ins a) h (ix3 0 b 0))) := fun a => by
    have H' := half a (ins a) b h d (fun j => Ref.pageOf (bt (ix2 b j))) s (fun g t => V (ix4 g t h d))
      (fun j hj => by
        rw [hln] at hj
        rw [hbt]
        exact Ref.pageOf_eq _ (hin b j hj).1 (hin b j hj).2)
      (fun t p => by
        refine Eq.trans ?_ (hs (pg (side a) p) t)
        refine congrArg (· * Ideal.ofBits .f32 0x3E000000#32) (Finset.sum_congr (M := EReal) rfl fun e _ => ?_)
        rw [hq, hk])
      (fun t p => hv a t h d p)
    rw [hln] at H'
    exact H'
  refine (merged_apply c (peer c) (ins c) (ins (peer c)) b h d).trans ?_
  obtain ⟨H₁⟩ := H c
  obtain ⟨H₂⟩ := H (peer c)
  have hx : (side c = 0 ∧ side (peer c) = 1) ∨ (side c = 1 ∧ side (peer c) = 0) := by clear * -; revert c; decide
  rcases hx with ⟨e₁, e₂⟩ | ⟨e₁, e₂⟩
  · rw [e₁] at H₁; rw [e₂] at H₂
    exact join_halves hu H₁ H₂
  · rw [e₁] at H₁; rw [e₂] at H₂
    exact (join_comm _ _ _ _ _ _).trans (join_halves hu H₂ H₁)

end

/-- Every page of the whole cache is one device's: pages 0 to 127 on a device of the first row, the others on one of
    the second. -/
theorem page_held (g : Fin 256) : ∃ (c : Dev nD) (p : Fin 128), g = pg (side c) p := by
  refine ⟨⟨2 * (g.val / 128), by show 2 * (g.val / 128) < 4; omega⟩, ⟨g.val % 128, by omega⟩, Fin.ext ?_⟩
  show g.val = g.val % 128 + 128 * ((2 * (g.val / 128)) / 2)
  omega

/-- Under the precondition, with each device holding its pages of the reference's cache, every device's result array
    ends as the reference's. -/
theorem written_eq_reference (m : (ℓ : Loc nD τ sig) → Buf (Elt Ideal) ℓ)
    (m' : (ℓ : Loc Cert.ReferenceIdeal.nD Cert.ReferenceIdeal.τ Cert.ReferenceIdeal.sig) → Buf (Elt Ideal) ℓ) (r : Dev Cert.ReferenceIdeal.nD)
    (hpre : ∀ c : Dev nD, Cert.Pre_pages_given_KernelIdeal.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1)
    (h0 : ∀ c : Dev nD, m ((c : Thread nD τ).loc main_arg0) = m' ((r.tc : Thread _ Cert.ReferenceIdeal.τ).loc Cert.ReferenceIdeal.main_arg0))
    (h1 : ∀ c : Dev nD, m ((c : Thread nD τ).loc main_arg1) = Layout.blockN ⟨4, ![128, 16, 16, 64]⟩ ⟨4, ![256, 16, 16, 64]⟩
      (Layout.meshBlock [2, 2] ![[0], [], [], []] c) (m' ((r.tc : Thread _ Cert.ReferenceIdeal.τ).loc Cert.ReferenceIdeal.main_arg1)))
    (h2 : ∀ c : Dev nD, m ((c : Thread nD τ).loc main_arg2) = Layout.blockN ⟨4, ![128, 16, 16, 64]⟩ ⟨4, ![256, 16, 16, 64]⟩
      (Layout.meshBlock [2, 2] ![[0], [], [], []] c) (m' ((r.tc : Thread _ Cert.ReferenceIdeal.τ).loc Cert.ReferenceIdeal.main_arg2)))
    (h3 : ∀ c : Dev nD, m ((c : Thread nD τ).loc main_arg3) = m' ((r.tc : Thread _ Cert.ReferenceIdeal.τ).loc Cert.ReferenceIdeal.main_arg3))
    (h4 : ∀ c : Dev nD, m ((c : Thread nD τ).loc main_arg4) = m' ((r.tc : Thread _ Cert.ReferenceIdeal.τ).loc Cert.ReferenceIdeal.main_arg4))
    (c : Dev nD) : written m c = Cert.ReferenceIdeal.Value.res_main_v39 m' r := by
  have G := fun a => given _ _ _ _ _ (hpre a)
  refine (written_eq m c).trans (Eq.trans ?_ (Ref.result_eq m' r).symm)
  have hk : ∀ (a : Dev nD) (p : Fin 128) (t h : Fin 16) (e : Fin 64), m ((a : Thread nD τ).loc main_arg1) (ix4 p t h e)
      = m' ((r.tc : Thread _ Cert.ReferenceIdeal.τ).loc Cert.ReferenceIdeal.main_arg1) (ix4 (pg (side a) p) t h e) := fun a p t h e =>
    (congrFun (h1 a) _).trans (block_apply a _ p t h e)
  refine result_eq_averaged (inputs m) _ _ _ _ _ (fun a => (inputs_q m a).trans (h0 a))
    (fun a t h e p => (inputs_kt_apply m a t h e p).trans (hk a p t h e))
    (fun a t h e p => (inputs_vt_apply m a t h e p).trans ((congrFun (h2 a) _).trans (block_apply a _ p t h e)))
    (fun a => (inputs_bt m a).trans (h3 a))
    (fun a b => (inputs_ln_apply m a b).trans (congrFun (h4 a) _)) ?_ ?_ ?_ ?_ c
  · intro b; rw [← h4 c]; exact (G c).1 b
  · intro b j hj; rw [← h4 c] at hj; rw [← h3 c]; exact (G c).2.1 b j hj
  · intro i; rw [← h0 c]; exact (G c).2.2.1 i
  · refine forall_ix4 fun g t h e => ?_
    obtain ⟨a, p, rfl⟩ := page_held g
    obtain ⟨x, hx⟩ := (G a).2.2.2 (ix4 p t h e)
    exact ⟨x, (hk a p t h e).symm.trans hx⟩

end Cert.PagedAttn

end
-- ==== Proof.lean ====
/-
  The proof of `Cert.Claim`, put together from the run of the kernel (Proof/Launch.lean), the run of the
  reference, and the equality of what they leave (Proof/Value.lean).
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem Cert.Kernel Cert.PagedAttn

/-- The kernel read at the chip's float words and the kernel read at exact numbers have the same body … -/
theorem same_body : Cert.Kernel.defs₀ (F := Bits) = Cert.KernelIdeal.defs₀ (F := Bits) := by
  unfold Cert.Kernel.defs₀ Cert.KernelIdeal.defs₀
  refine congrArg Defs.onTc ?_
  funext l a
  match l, a with
  | 0, (_, _) => rfl

/-- … and so the same table of functions. -/
theorem same_defs : Cert.Kernel.defs (F := Bits) = Cert.KernelIdeal.defs (F := Bits) :=
  congrArg (Pipeline.defs Cert.KernelIdeal.pcfgs) same_body

/-- The kernel at the chip's own float words ends, leaves its arguments alone and its counters at zero. -/
theorem frame_kernel : Cert.quiescent_Kernel := fun m ρ _ => by
  rw [same_defs]
  exact run_frame (F := Bits) m ρ

/-- The same at exact numbers. -/
theorem frame_kernelIdeal : Cert.quiescent_KernelIdeal := fun m ρ _ => run_frame (F := Ideal) m ρ

/-- The reference ends and leaves its arguments alone; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that hold the same arrays, each device its pages of the cache, the kernel leaves on every device the
    array the reference leaves. -/
theorem algebraic : Cert.algebraic_KernelIdeal_ReferenceIdeal_pre_pages_given_KernelIdeal := fun m ρ m' ρ' hpre hsame =>
  ⟨Cert.ReferenceIdeal.Value.res_main_v39 m' 0,
    (θ_run Cert.KernelIdeal.defs _ _).mono
      (fun r h c => by
        obtain ⟨a0, a1, a2, a3, a4, ao⟩ := h.1 c
        refine ⟨ao.trans (written_eq_reference m m' 0 hpre (fun c => (hsame c).1) (fun c => (hsame c).2.1)
          (fun c => (hsame c).2.2.1) (fun c => (hsame c).2.2.2.1) (fun c => (hsame c).2.2.2.2) c), a0, a1, a2, a3, a4⟩)
      (run_main (F := Ideal) m ρ),
    (θ_run Cert.ReferenceIdeal.defs _ _).mono (fun r h => h 0) (Cert.ReferenceIdeal.Value.run (F := Ideal) m' ρ')⟩

/-- Everything claimed. The runs need no precondition, so they hold under it. -/
theorem claim : Cert.Claim := ⟨Cert.Kernel.Gen.facts, Cert.KernelIdeal.Gen.facts, Cert.ReferenceIdeal.Gen.facts, givenFacts, givenFactsRef,
  frame_kernel, frame_kernelIdeal, fun m ρ _ => frame_kernelIdeal m ρ trivial,
  frame_reference, fun m ρ _ => frame_reference m ρ trivial, trivial, algebraic⟩

end Cert.Proof

end
